-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale_log2e" .f32 0x3E0293EE#32 ((((Real.sqrt 128) * (Real.log 2))⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v5_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x4x8192 : Shape := ⟨3, ![1, 4, 8192]⟩
abbrev S1x4x8x128 : Shape := ⟨4, ![1, 4, 8, 128]⟩
abbrev S1x131072x8x128 : Shape := ⟨4, ![1, 131072, 8, 128]⟩
abbrev S8 : Shape := ⟨1, ![8]⟩
abbrev S_ : Shape := ⟨0, ![]⟩

class Facts : Prop where
  bcast_S_S1x4x8192 : S_.BroadcastsInDim S1x4x8192 (![] : Fin 0 → Fin S1x4x8192.rank)
  bcast_S_S8 : S_.BroadcastsInDim S8 (![] : Fin 0 → Fin S8.rank)
  bcast_S_S1x131072x8x128 : S_.BroadcastsInDim S1x131072x8x128 (![] : Fin 0 → Fin S1x131072x8x128.rank)

variable [Facts]

def fn {F : FTy → Type} [FloatOps F] (main_arg0 : FVec F S1x4x8192 .bf16) (main_arg1 : FVec F S1x4x8x128 .bf16) (main_arg2 : FVec F S1x4x8x128 .bf16) (main_arg3 : IVec S1x131072x8x128 8) (main_arg4 : FVec F S8 .f32) (main_arg5 : IVec S1x131072x8x128 8) (main_arg6 : FVec F S8 .f32) : IVec S1x4x8192 1 × IVec S8 1 × IVec S8 1 × IVec S1x131072x8x128 1 × IVec S1x131072x8x128 1 :=
  let main_v0 : FVec F S1x4x8192 .bf16 := Host.absf main_arg0
  let main_cst : FVec F S_ .bf16 := constant S_ .bf16 0x7F80#16
  let main_v1 : FVec F S1x4x8192 .bf16 := broadcastInDim S1x4x8192 ![] bcast_S_S1x4x8192 main_cst
  let main_v2 : IVec S1x4x8192 1 := cmpf .olt main_v0 main_v1
  let main_v3 : FVec F S8 .f32 := Host.absf main_arg4
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S8 .f32 := Host.absf main_arg6
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_c : IVec S_ 8 := constantI S_ 8 127#8
  let main_v9 : IVec S1x131072x8x128 8 := broadcastInDim S1x131072x8x128 ![] bcast_S_S1x131072x8x128 main_c
  let main_v10 : IVec S1x131072x8x128 1 := cmpi .ne main_arg3 main_v9
  let main_c_2 : IVec S_ 8 := constantI S_ 8 255#8
  let main_v11 : IVec S1x131072x8x128 8 := broadcastInDim S1x131072x8x128 ![] bcast_S_S1x131072x8x128 main_c_2
  let main_v12 : IVec S1x131072x8x128 1 := cmpi .ne main_arg3 main_v11
  (main_v2, main_v5, main_v8, main_v10, main_v12)
-- ==== Kernel.lean ====
abbrev S1x4x8192 : Shape := ⟨3, ![1, 4, 8192]⟩
abbrev S1x4x8x128 : Shape := ⟨4, ![1, 4, 8, 128]⟩
abbrev S1x131072x8x128 : Shape := ⟨4, ![1, 131072, 8, 128]⟩
abbrev S8 : Shape := ⟨1, ![8]⟩
abbrev S4x8192 : Shape := ⟨2, ![4, 8192]⟩
abbrev S32x128 : Shape := ⟨2, ![32, 128]⟩
abbrev S1048576x128 : Shape := ⟨2, ![1048576, 128]⟩
abbrev S16384x128 : Shape := ⟨2, ![16384, 128]⟩
abbrev S256x128 : Shape := ⟨2, ![256, 128]⟩
abbrev S4x64x256 : Shape := ⟨3, ![4, 64, 256]⟩
abbrev S256x2048 : Shape := ⟨2, ![256, 2048]⟩
abbrev S4096x128 : Shape := ⟨2, ![4096, 128]⟩
abbrev S4x128 : Shape := ⟨2, ![4, 128]⟩
abbrev S1x32x128 : Shape := ⟨3, ![1, 32, 128]⟩
abbrev S1 : Shape := ⟨1, ![1]⟩
abbrev S256x32 : Shape := ⟨2, ![256, 32]⟩
abbrev S256 : Shape := ⟨1, ![256]⟩
abbrev S256x1 : Shape := ⟨2, ![256, 1]⟩
abbrev S64x128 : Shape := ⟨2, ![64, 128]⟩
abbrev S256x256 : Shape := ⟨2, ![256, 256]⟩
abbrev S1x64x256 : Shape := ⟨3, ![1, 64, 256]⟩
abbrev S64x256 : Shape := ⟨2, ![64, 256]⟩

abbrev nBuf : Space → Nat
  | .hbm => 15
  | .vmem => 19
  | .smem => 2
  | _ => 0

abbrev bufTy : (tb : Table) → Fin (tcTables nBuf tb) → BufTy
  | .hbm, ⟨0, _⟩ => ⟨S1x4x8192, .bf16⟩
  | .hbm, ⟨1, _⟩ => ⟨S1x4x8x128, .bf16⟩
  | .hbm, ⟨2, _⟩ => ⟨S1x4x8x128, .bf16⟩
  | .hbm, ⟨3, _⟩ => ⟨S1x131072x8x128, .i8⟩
  | .hbm, ⟨4, _⟩ => ⟨S8, .f32⟩
  | .hbm, ⟨5, _⟩ => ⟨S1x131072x8x128, .i8⟩
  | .hbm, ⟨6, _⟩ => ⟨S8, .f32⟩
  | .hbm, ⟨7, _⟩ => ⟨S4x8192, .bf16⟩
  | .hbm, ⟨8, _⟩ => ⟨S32x128, .bf16⟩
  | .hbm, ⟨9, _⟩ => ⟨S32x128, .bf16⟩
  | .hbm, ⟨10, _⟩ => ⟨S1048576x128, .i8⟩
  | .hbm, ⟨11, _⟩ => ⟨S1048576x128, .i8⟩
  | .hbm, ⟨12, _⟩ => ⟨S4x8192, .bf16⟩
  | .hbm, ⟨13, _⟩ => ⟨S32x128, .fp8e4m3⟩
  | .hbm, ⟨14, _⟩ => ⟨S32x128, .fp8e4m3⟩
  | .local _ .vmem, ⟨0, _⟩ => ⟨S4x8192, .bf16⟩
  | .local _ .vmem, ⟨1, _⟩ => ⟨S32x128, .bf16⟩
  | .local _ .vmem, ⟨2, _⟩ => ⟨S32x128, .bf16⟩
  | .local _ .vmem, ⟨3, _⟩ => ⟨S16384x128, .i8⟩
  | .local _ .vmem, ⟨4, _⟩ => ⟨S16384x128, .i8⟩
  | .local _ .vmem, ⟨5, _⟩ => ⟨S16384x128, .i8⟩
  | .local _ .vmem, ⟨6, _⟩ => ⟨S16384x128, .i8⟩
  | .local _ .vmem, ⟨7, _⟩ => ⟨S4x8192, .bf16⟩
  | .local _ .vmem, ⟨8, _⟩ => ⟨S32x128, .fp8e4m3⟩
  | .local _ .vmem, ⟨9, _⟩ => ⟨S32x128, .fp8e4m3⟩
  | .local _ .vmem, ⟨10, _⟩ => ⟨S256x128, .f32⟩
  | .local _ .vmem, ⟨11, _⟩ => ⟨S4x64x256, .bf16⟩
  | .local _ .vmem, ⟨12, _⟩ => ⟨S256x128, .f32⟩
  | .local _ .vmem, ⟨13, _⟩ => ⟨S256x2048, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S4096x128, .i32⟩
  | .local _ .vmem, ⟨18, _⟩ => ⟨S4096x128, .i32⟩
  | .local _ .smem, ⟨0, _⟩ => ⟨S8, .f32⟩
  | .local _ .smem, ⟨1, _⟩ => ⟨S8, .f32⟩
  | _, _ => ⟨S1x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v2821 : BitVec 1 := Scalar.cmpi .eq arg0 c63_i32
  let v2822 : BitVec 32 := Scalar.extui v2821
  let c0_i32_1326 : BitVec 32 := 0#32
  let v2823 : BitVec 1 := Scalar.cmpi .ne v2822 c0_i32_1326
  v2823

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16384x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "scale_log2e" => some ((((Real.sqrt 128) * (Real.log 2))⁻¹ : ℝ) : EReal)
  | _ => none
-- ==== ReferenceIdeal.lean ====
abbrev S1x4x8192 : Shape := ⟨3, ![1, 4, 8192]⟩
abbrev S1x4x8x128 : Shape := ⟨4, ![1, 4, 8, 128]⟩
abbrev S1x131072x8x128 : Shape := ⟨4, ![1, 131072, 8, 128]⟩
abbrev S8 : Shape := ⟨1, ![8]⟩
abbrev S1x1x8x1 : Shape := ⟨4, ![1, 1, 8, 1]⟩
abbrev S1x4x8x8x128 : Shape := ⟨5, ![1, 4, 8, 8, 128]⟩
abbrev S1x131076x8x128 : Shape := ⟨4, ![1, 131076, 8, 128]⟩
abbrev S1x8x131076x4x8 : Shape := ⟨5, ![1, 8, 131076, 4, 8]⟩
abbrev S1x8x8x4x131076 : Shape := ⟨5, ![1, 8, 8, 4, 131076]⟩
abbrev S_ : Shape := ⟨0, ![]⟩
abbrev S131076 : Shape := ⟨1, ![131076]⟩
abbrev S1x131076 : Shape := ⟨2, ![1, 131076]⟩
abbrev S4 : Shape := ⟨1, ![4]⟩
abbrev S4x1 : Shape := ⟨2, ![4, 1]⟩
abbrev S4x131076 : Shape := ⟨2, ![4, 131076]⟩
abbrev S1x8x8x4 : Shape := ⟨4, ![1, 8, 8, 4]⟩
abbrev S1x8x8x4x1 : Shape := ⟨5, ![1, 8, 8, 4, 1]⟩
abbrev S1x8x8x4x128 : Shape := ⟨5, ![1, 8, 8, 4, 128]⟩
abbrev S4x8192 : Shape := ⟨2, ![4, 8192]⟩
abbrev S32x128 : Shape := ⟨2, ![32, 128]⟩

abbrev nBuf : Space → Nat
  | .hbm => 56
  | .vmem => 12
  | .smem => 0
  | _ => 0

abbrev bufTy : (tb : Table) → Fin (tcTables nBuf tb) → BufTy
  | .hbm, ⟨0, _⟩ => ⟨S1x4x8192, .bf16⟩
  | .hbm, ⟨1, _⟩ => ⟨S1x4x8x128, .bf16⟩
  | .hbm, ⟨2, _⟩ => ⟨S1x4x8x128, .bf16⟩
  | .hbm, ⟨3, _⟩ => ⟨S1x131072x8x128, .i8⟩
  | .hbm, ⟨4, _⟩ => ⟨S8, .f32⟩
  | .hbm, ⟨5, _⟩ => ⟨S1x131072x8x128, .i8⟩
  | .hbm, ⟨6, _⟩ => ⟨S8, .f32⟩
  | .hbm, ⟨7, _⟩ => ⟨S1x4x8x128, .fp8e4m3⟩
  | .hbm, ⟨8, _⟩ => ⟨S1x4x8x128, .fp8e4m3⟩
  | .hbm, ⟨9, _⟩ => ⟨S1x4x8x128, .bf16⟩
  | .hbm, ⟨10, _⟩ => ⟨S1x4x8x128, .bf16⟩
  | .hbm, ⟨11, _⟩ => ⟨S1x131072x8x128, .bf16⟩
  | .hbm, ⟨12, _⟩ => ⟨S1x131072x8x128, .bf16⟩
  | .hbm, ⟨13, _⟩ => ⟨S1x4x8x8x128, .bf16⟩
  | .hbm, ⟨14, _⟩ => ⟨S1x131076x8x128, .bf16⟩
  | .hbm, ⟨15, _⟩ => ⟨S1x131076x8x128, .bf16⟩
  | .hbm, ⟨16, _⟩ => ⟨S1x8x131076x4x8, .f32⟩
  | .hbm, ⟨17, _⟩ => ⟨S1x8x8x4x131076, .f32⟩
  | .hbm, ⟨18, _⟩ => ⟨S_, .f32⟩
  | .hbm, ⟨19, _⟩ => ⟨S_, .f32⟩
  | .hbm, ⟨20, _⟩ => ⟨S1x8x8x4x131076, .f32⟩
  | .hbm, ⟨21, _⟩ => ⟨S1x8x8x4x131076, .f32⟩
  | .hbm, ⟨22, _⟩ => ⟨S131076, .i32⟩
  | .hbm, ⟨23, _⟩ => ⟨S1x131076, .i32⟩
  | .hbm, ⟨24, _⟩ => ⟨S4, .i32⟩
  | .hbm, ⟨25, _⟩ => ⟨S4x1, .i32⟩
  | .hbm, ⟨26, _⟩ => ⟨S_, .i32⟩
  | .hbm, ⟨27, _⟩ => ⟨S4x1, .i32⟩
  | .hbm, ⟨28, _⟩ => ⟨S4x1, .i32⟩
  | .hbm, ⟨29, _⟩ => ⟨S4x131076, .i32⟩
  | .hbm, ⟨30, _⟩ => ⟨S4x131076, .i32⟩
  | .hbm, ⟨31, _⟩ => ⟨S4x131076, .i1⟩
  | .hbm, ⟨32, _⟩ => ⟨S_, .f32⟩
  | .hbm, ⟨33, _⟩ => ⟨S_, .f32⟩
  | .hbm, ⟨34, _⟩ => ⟨S1x8x8x4x131076, .i1⟩
  | .hbm, ⟨35, _⟩ => ⟨S1x8x8x4x131076, .f32⟩
  | .hbm, ⟨36, _⟩ => ⟨S1x8x8x4x131076, .f32⟩
  | .hbm, ⟨37, _⟩ => ⟨S_, .f32⟩
  | .hbm, ⟨38, _⟩ => ⟨S1x8x8x4, .f32⟩
  | .hbm, ⟨39, _⟩ => ⟨S1x8x8x4x1, .f32⟩
  | .hbm, ⟨40, _⟩ => ⟨S1x8x8x4x131076, .f32⟩
  | .hbm, ⟨41, _⟩ => ⟨S1x8x8x4x131076, .f32⟩
  | .hbm, ⟨42, _⟩ => ⟨S1x8x8x4x131076, .f32⟩
  | .hbm, ⟨43, _⟩ => ⟨S_, .f32⟩
  | .hbm, ⟨44, _⟩ => ⟨S1x8x8x4, .f32⟩
  | .hbm, ⟨45, _⟩ => ⟨S1x131076x8x128, .f32⟩
  | .hbm, ⟨46, _⟩ => ⟨S1x8x8x4x128, .f32⟩
  | .hbm, ⟨47, _⟩ => ⟨S1x8x8x4x1, .f32⟩
  | .hbm, ⟨48, _⟩ => ⟨S1x8x8x4x128, .f32⟩
  | .hbm, ⟨49, _⟩ => ⟨S1x8x8x4x128, .f32⟩
  | .hbm, ⟨50, _⟩ => ⟨S1x4x8x8x128, .f32⟩
  | .hbm, ⟨51, _⟩ => ⟨S1x4x8192, .f32⟩
  | .hbm, ⟨52, _⟩ => ⟨S1x4x8192, .bf16⟩
  | .hbm, ⟨53, _⟩ => ⟨S4x8192, .bf16⟩
  | .hbm, ⟨54, _⟩ => ⟨S32x128, .fp8e4m3⟩
  | .hbm, ⟨55, _⟩ => ⟨S32x128, .fp8e4m3⟩
  | .local _ .vmem, ⟨0, _⟩ => ⟨S1x4x8x128, .bf16⟩
  | .local _ .vmem, ⟨1, _⟩ => ⟨S1x4x8x128, .bf16⟩
  | .local _ .vmem, ⟨2, _⟩ => ⟨S1x131072x8x128, .i8⟩
  | .local _ .vmem, ⟨3, _⟩ => ⟨S8, .f32⟩
  | .local _ .vmem, ⟨4, _⟩ => ⟨S1x131072x8x128, .i8⟩
  | .local _ .vmem, ⟨5, _⟩ => ⟨S8, .f32⟩
  | .local _ .vmem, ⟨6, _⟩ => ⟨S1x4x8x128, .fp8e4m3⟩
  | .local _ .vmem, ⟨7, _⟩ => ⟨S1x4x8x128, .fp8e4m3⟩
  | .local _ .vmem, ⟨8, _⟩ => ⟨S1x4x8x128, .bf16⟩
  | .local _ .vmem, ⟨9, _⟩ => ⟨S1x4x8x128, .bf16⟩
  | .local _ .vmem, ⟨10, _⟩ => ⟨S1x131072x8x128, .bf16⟩
  | .local _ .vmem, ⟨11, _⟩ => ⟨S1x131072x8x128, .bf16⟩
  | _, _ => ⟨S1x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x4x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x8x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x131072x8x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x131072x8x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4x8x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x131072x8x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x131072x8x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Run.Runs.lean ====
/- What the runs of the body share: the program up to its pipelined region (`hmain`, `V`), each window's block at a point
   (`iblk`), the frame's post from a run (`frame_of`), the body's branch conditions in closed form over the points, where the
   windows are idle, and the staging and scratch memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats 0 c).arrAt_in 0 rfl _).trans ((hA c 0).trans (V_main_arg4 m c))),
      ((h c).2 main_arg5 (Pipeline.mem_restRefs_of main_arg5 (by decide) (by decide))).trans (V_main_arg5 m c),
      ((h c).1 1).trans (((dats 0 c).arrAt_in 1 rfl _).trans ((hA c 1).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x8000000000000000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 idle: the case stores nothing into it. -/
theorem idleAt0_8_C : ∀ t : Fin cfg0.N, ¬cond0_0 (grid0.coords t) → cond0_1 (grid0.coords t) → cfg0.idle 8 (grid0.coords t) = true := by decide +kernel
/-- At the points of case C the pipeline writes output 8's block back. -/
theorem flushAt0_8_C : ∀ t : Fin cfg0.N, ¬cond0_0 (grid0.coords t) → cond0_1 (grid0.coords t) → (cfg0.win 8).flush t = true := by decide +kernel
/-- At the points of case C, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_C : ∀ t : Fin cfg0.N, ¬cond0_0 (grid0.coords t) → cond0_1 (grid0.coords t) → cfg0.fresh 8 t.val = false := by
  intro t; rw [fresh0_8_eq t]; revert t; decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab0_9_step` checks it against the configuration's own
    step point by point and Lib/Pipeline/TableIdle.lean `Cfg.fresh_tab` makes it `Cfg.fresh` (`fresh0_9_eq`). -/
def freshTab0_9 : ℕ → Bool
  | 0 => true
  | n + 1 => (0x8000000000000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
/-- At the points of case A the printed configuration (`Cfg.idle`) calls output 9 live: the case stores into it. -/
theorem liveAt0_9_A : ∀ t : Fin cfg0.N, cond0_0 (grid0.coords t) → ¬cond0_1 (grid0.coords t) → cfg0.idle 9 (grid0.coords t) = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 idle: the case stores nothing into it. -/
theorem idleAt0_9_C : ∀ t : Fin cfg0.N, ¬cond0_0 (grid0.coords t) → cond0_1 (grid0.coords t) → cfg0.idle 9 (grid0.coords t) = true := by decide +kernel
/-- At the points of case C the pipeline writes output 9's block back. -/
theorem flushAt0_9_C : ∀ t : Fin cfg0.N, ¬cond0_0 (grid0.coords t) → cond0_1 (grid0.coords t) → (cfg0.win 9).flush t = true := by decide +kernel
/-- At the points of case C, which keeps output 9's prior contents (reads it before covering, or covers it in part), the
    window's buffer is not FRESH: something was stored into it since the region's entry or its last write-back, idle points
    between or not (Lib/Pipeline/TableIdle.lean `Cfg.fresh`, by the table `freshTab0_9`). -/
theorem notFresh0_9_C : ∀ t : Fin cfg0.N, ¬cond0_0 (grid0.coords t) → cond0_1 (grid0.coords t) → cfg0.fresh 9 t.val = false := by
  intro t; rw [fresh0_9_eq t]; revert t; decide +kernel

/-! ## The kernel body on any staging memrefs: a subtype the run finds -/

/-- One staging buffer of output window 7, through which its contents are stated (`View.read_writes_of_cover`: the
    choice does not matter). -/
abbrev VO0_7 : View sig .tc .vmem S4x8192 .bf16 := (Memref.whole cc0_stg7_0 : Memref sig .tc .vmem S4x8192 .bf16).view
/-- One staging buffer of output window 8, through which its contents are stated (`View.read_writes_of_cover`: the
    choice does not matter). -/
abbrev VO0_8 : View sig .tc .vmem S32x128 .fp8e4m3 := (Memref.whole cc0_stg8_0 : Memref sig .tc .vmem S32x128 .fp8e4m3).view
/-- One staging buffer of output window 9, through which its contents are stated (`View.read_writes_of_cover`: the
    choice does not matter). -/
abbrev VO0_9 : View sig .tc .vmem S32x128 .fp8e4m3 := (Memref.whole cc0_stg9_0 : Memref sig .tc .vmem S32x128 .fp8e4m3).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16384x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16384x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x128 .fp8e4m3 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x128 .f32 := Memref.whole cc0_scratch0
abbrev scM0_1 : Memref sig .tc .vmem S4x64x256 .bf16 := Memref.whole cc0_scratch1
abbrev scM0_2 : Memref sig .tc .vmem S256x128 .f32 := Memref.whole cc0_scratch2
abbrev scM0_3 : Memref sig .tc .vmem S256x2048 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6
abbrev scM0_7 : Memref sig .tc .vmem S4096x128 .i32 := Memref.whole cc0_scratch7
abbrev scM0_8 : Memref sig .tc .vmem S4096x128 .i32 := Memref.whole cc0_scratch8
/-- The scratch `arg12` the kernel carries between points, as a view: what it holds is stated through it. -/
abbrev VS0_1 : View sig .tc .vmem S4x64x256 .bf16 := scM0_1.view
/-- The scratch `arg13` the kernel carries between points, as a view: what it holds is stated through it. -/
abbrev VS0_2 : View sig .tc .vmem S256x128 .f32 := scM0_2.view
/-- The scratch `arg15` the kernel carries between points, as a view: what it holds is stated through it. -/
abbrev VS0_4 : View sig .tc .vmem S256x128 .f32 := scM0_4.view
/-- The scratch `arg16` the kernel carries between points, as a view: what it holds is stated through it. -/
abbrev VS0_5 : View sig .tc .vmem S256x128 .f32 := scM0_5.view
/-- The scratch `arg17` the kernel carries between points, as a view: what it holds is stated through it. -/
abbrev VS0_6 : View sig .tc .vmem S256x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.Run.RunA.lean ====
/- The run of the kernel's body in case A, the first point: the new rows are quantised and stored, the scratch is initialised (`kernelRun0_A`): the
   body's triple over the skeleton; the pieces each buffer ends with are its witness. The run modules form a chain, each
   importing the one before. -/
module

public import proofs.«01_k».proof.Proof.Run.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3988000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) :
    Σ' (L7 : List (View.Piece (Elt F) S4x8192 .bf16)), Σ' (L8 : List (View.Piece (Elt F) S32x128 .fp8e4m3)), Σ' (L9 : List (View.Piece (Elt F) S32x128 .fp8e4m3)), Σ' (LS1 : List (View.Piece (Elt F) S4x64x256 .bf16)), Σ' (LS2 : List (View.Piece (Elt F) S256x128 .f32)), Σ' (LS4 : List (View.Piece (Elt F) S256x128 .f32)), Σ' (LS5 : List (View.Piece (Elt F) S256x128 .f32)), Σ' (LS6 : List (View.Piece (Elt F) S256x128 .f32)), Σ' (LT0 : List (View.Piece (Elt F) S256x128 .f32)), Σ' (LT3 : List (View.Piece (Elt F) S256x2048 .f32)), Σ' (LT7 : List (View.Piece (Elt F) S4096x128 .i32)), { LT8 : List (View.Piece (Elt F) S4096x128 .i32) //
      ∀ (xi7 : Vec F S4x8192 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LT3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ (∃ f, arg17.view.loc (c : Thread nD τ) ↦[arg17.view.set]{fullShare} arg17.view.writes (Elt F) f LS6) ∗ (∃ f, arg18.view.loc (c : Thread nD τ) ↦[arg18.view.set]{fullShare} arg18.view.writes (Elt F) f LT7) ∗ (∃ f, arg19.view.loc (c : Thread nD τ) ↦[arg19.view.set]{fullShare} arg19.view.writes (Elt F) f LT8)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], ?_, ?_, ?_, ?_, ?_, ?_, ?_, ?_, ?_, ?_, ?_, fun xi7 E K => ?run⟩
  case run =>
    simp only [cc0_gqa_decode_fp8_eq_skeleton]; unfold cc0_gqa_decode_fp8_skel
    simp only [k0_part100_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.Run.RunB.lean ====
/- The run of the kernel's body in case B, a point that is neither the first nor the last (`kernelRun0_B`): the
   body's triple over the skeleton; the pieces each buffer ends with are its witness. The run modules form a chain, each
   importing the one before. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2504000 in
/-- What the body's stores leave in each output's staging memref, as pieces (last first) IN CASE B (`scf.if` 0 not taken, `scf.if` 1 not taken: points 1, 2, … 62: 62 of 64), WITH the
    proof that on whole staging memrefs — the inputs' at their contents, the outputs it leaves idle (7, 8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32) :
    Σ' (L7 : List (View.Piece (Elt F) S4x8192 .bf16)), Σ' (L8 : List (View.Piece (Elt F) S32x128 .fp8e4m3)), Σ' (L9 : List (View.Piece (Elt F) S32x128 .fp8e4m3)), Σ' (LS1 : List (View.Piece (Elt F) S4x64x256 .bf16)), Σ' (LS2 : List (View.Piece (Elt F) S256x128 .f32)), Σ' (LS4 : List (View.Piece (Elt F) S256x128 .f32)), Σ' (LS5 : List (View.Piece (Elt F) S256x128 .f32)), Σ' (LS6 : List (View.Piece (Elt F) S256x128 .f32)), Σ' (LT0 : List (View.Piece (Elt F) S256x128 .f32)), Σ' (LT3 : List (View.Piece (Elt F) S256x2048 .f32)), Σ' (LT7 : List (View.Piece (Elt F) S4096x128 .i32)), { LT8 : List (View.Piece (Elt F) S4096x128 .i32) //
      ∀ (xi7 : Vec F S4x8192 .bf16) (xi8 : Vec F S32x128 .fp8e4m3) (xi9 : Vec F S32x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ d, owns (c : Thread nD τ) arg11 fullShare d) ∗ owns (c : Thread nD τ) arg12 fullShare xs1 ∗ owns (c : Thread nD τ) arg13 fullShare xs2 ∗ (∃ d, owns (c : Thread nD τ) arg14 fullShare d) ∗ owns (c : Thread nD τ) arg15 fullShare xs4 ∗ owns (c : Thread nD τ) arg16 fullShare xs5 ∗ owns (c : Thread nD τ) arg17 fullShare xs6 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ (∃ d, owns (c : Thread nD τ) arg11 fullShare d) ∗ owns (c : Thread nD τ) arg12 fullShare xs1 ∗ owns (c : Thread nD τ) arg13 fullShare xs2 ∗ (∃ f, arg14.view.loc (c : Thread nD τ) ↦[arg14.view.set]{fullShare} arg14.view.writes (Elt F) f LT3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ (∃ f, arg17.view.loc (c : Thread nD τ) ↦[arg17.view.set]{fullShare} arg17.view.writes (Elt F) f LS6) ∗ (∃ f, arg18.view.loc (c : Thread nD τ) ↦[arg18.view.set]{fullShare} arg18.view.writes (Elt F) f LT7) ∗ (∃ f, arg19.view.loc (c : Thread nD τ) ↦[arg19.view.set]{fullShare} arg19.view.writes (Elt F) f LT8)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], [], [], [], ?_, ?_, ?_, [], ?_, ?_, ?_, fun xi7 xi8 xi9 E K => ?run⟩
  case run =>
    simp only [cc0_gqa_decode_fp8_eq_skeleton]; unfold cc0_gqa_decode_fp8_skel
    simp only [k0_part100_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, ⟨%fs2, %hfs2, HS2⟩, ⟨%ds3, %fs3, -, HS3⟩, ⟨%fs4, %hfs4, HS4⟩, ⟨%fs5, %hfs5, HS5⟩, ⟨%fs6, %hfs6, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs1; obtain rfl := harg13.eq_unread hfs2; obtain rfl := harg15.eq_unread hfs4; obtain rfl := harg16.eq_unread hfs5; obtain rfl := harg17.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]
    · iexists _, _; isplitr; swap; · iexact HS0
      ipureintro; rfl
    isplitl [HS1]
    · iexists _; isplitr; · ipureintro; exact harg12.read_unread _
      iexact HS1
    isplitl [HS2]
    · iexists _; isplitr; · ipureintro; exact harg13.read_unread _
      iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.Run.RunC.lean ====
/- The run of the kernel's body in case C, the last point: the new rows join the sums and the attention is stored (`kernelRun0_C`): the
   body's triple over the skeleton; the pieces each buffer ends with are its witness. The run modules form a chain, each
   importing the one before. -/
module

public import proofs.«01_k».proof.Proof.Run.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3400000 in
/-- What the body's stores leave in each output's staging memref, as pieces (last first) IN CASE C (`scf.if` 0 not taken, `scf.if` 1 taken: points 63), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32) :
    Σ' (L7 : List (View.Piece (Elt F) S4x8192 .bf16)), Σ' (L8 : List (View.Piece (Elt F) S32x128 .fp8e4m3)), Σ' (L9 : List (View.Piece (Elt F) S32x128 .fp8e4m3)), Σ' (LS1 : List (View.Piece (Elt F) S4x64x256 .bf16)), Σ' (LS2 : List (View.Piece (Elt F) S256x128 .f32)), Σ' (LS4 : List (View.Piece (Elt F) S256x128 .f32)), Σ' (LS5 : List (View.Piece (Elt F) S256x128 .f32)), Σ' (LS6 : List (View.Piece (Elt F) S256x128 .f32)), Σ' (LT0 : List (View.Piece (Elt F) S256x128 .f32)), Σ' (LT3 : List (View.Piece (Elt F) S256x2048 .f32)), Σ' (LT7 : List (View.Piece (Elt F) S4096x128 .i32)), { LT8 : List (View.Piece (Elt F) S4096x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ (∃ d, owns (c : Thread nD τ) arg11 fullShare d) ∗ owns (c : Thread nD τ) arg12 fullShare xs1 ∗ owns (c : Thread nD τ) arg13 fullShare xs2 ∗ (∃ d, owns (c : Thread nD τ) arg14 fullShare d) ∗ owns (c : Thread nD τ) arg15 fullShare xs4 ∗ owns (c : Thread nD τ) arg16 fullShare xs5 ∗ owns (c : Thread nD τ) arg17 fullShare xs6 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ (∃ f, arg11.view.loc (c : Thread nD τ) ↦[arg11.view.set]{fullShare} arg11.view.writes (Elt F) f LT0) ∗ owns (c : Thread nD τ) arg12 fullShare xs1 ∗ owns (c : Thread nD τ) arg13 fullShare xs2 ∗ (∃ f, arg14.view.loc (c : Thread nD τ) ↦[arg14.view.set]{fullShare} arg14.view.writes (Elt F) f LT3) ∗ (∃ f, arg15.view.loc (c : Thread nD τ) ↦[arg15.view.set]{fullShare} arg15.view.writes (Elt F) f LS4) ∗ (∃ f, arg16.view.loc (c : Thread nD τ) ↦[arg16.view.set]{fullShare} arg16.view.writes (Elt F) f LS5) ∗ (∃ f, arg17.view.loc (c : Thread nD τ) ↦[arg17.view.set]{fullShare} arg17.view.writes (Elt F) f LS6) ∗ (∃ f, arg18.view.loc (c : Thread nD τ) ↦[arg18.view.set]{fullShare} arg18.view.writes (Elt F) f LT7) ∗ (∃ f, arg19.view.loc (c : Thread nD τ) ↦[arg19.view.set]{fullShare} arg19.view.writes (Elt F) f LT8)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, [], [], [], [], ?_, ?_, ?_, ?_, ?_, ?_, ?_, fun E K => ?run⟩
  case run =>
    simp only [cc0_gqa_decode_fp8_eq_skeleton]; unfold cc0_gqa_decode_fp8_skel
    simp only [k0_part100_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%fs1, %hfs1, HS1⟩, ⟨%fs2, %hfs2, HS2⟩, ⟨%ds3, %fs3, -, HS3⟩, ⟨%fs4, %hfs4, HS4⟩, ⟨%fs5, %hfs5, HS5⟩, ⟨%fs6, %hfs6, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg12.eq_unread hfs1; obtain rfl := harg13.eq_unread hfs2; obtain rfl := harg15.eq_unread hfs4; obtain rfl := harg16.eq_unread hfs5; obtain rfl := harg17.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    isplitl [HS1]
    · iexists _; isplitr; · ipureintro; exact harg12.read_unread _
      iexact HS1
    isplitl [HS2]
    · iexists _; isplitr; · ipureintro; exact harg13.read_unread _
      iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.KernelIdeal.Gen

end
-- ==== Proof.Run.Frame.lean ====
/- What each output block and each carried scratch array holds after a grid point, case by case and point by point
   (`outsAt0`), the proof data of the pipelined region (`dats`), the obligation of its body, the run (`run_main`) and the
   frame claim (`frame`), at any number format semantics. -/
module

public import proofs.«01_k».proof.Proof.Run.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8)

/-- Case A stores nothing into output 7 (the window is idle at its points and not written back there):
    no pieces — a placeholder (junk read back) that nothing consults, since at these points the window is neither
    written back nor read at the next point (Lib/Pipeline.lean "Idle points"). -/
def out0_A_7 : Vec F S4x8192 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).1)

/-- Case A's pieces for output 8 tile its block (1 store of `S32x128`, checked by the kernel's evaluation: Lib/Ring.lean `Piece.tiledL`, linear in the pieces, through a loop's `@[irreducible]` trip theorem too), so they cover it. -/
theorem cover0_A_8 (y : S32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1 S32x128.size (by sl_kernel_rfl) y

/-- What case A leaves in output 8's staging buffer: its pieces read back over junk. -/
def out0_A_8 : Vec F S32x128 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1)

/-- Case A's pieces for output 9 tile its block (1 store of `S32x128`, checked by the kernel's evaluation: Lib/Ring.lean `Piece.tiledL`, linear in the pieces, through a loop's `@[irreducible]` trip theorem too), so they cover it. -/
theorem cover0_A_9 (y : S32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1 S32x128.size (by sl_kernel_rfl) y

/-- What case A leaves in output 9's staging buffer: its pieces read back over junk. -/
def out0_A_9 : Vec F S32x128 .fp8e4m3 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1)

/-- Case A's pieces for scratch `arg12`, which the kernel carries between points, cover it: one of them a store of the WHOLE buffer (Lib/Ring.lean `sl_whole_mem`). -/
theorem scover0_A_1 (y : S4x64x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1 (by sl_whole_mem) y

/-- What case A leaves in scratch `arg12`: its pieces read back over junk. -/
def sout0_A_1 : Vec F S4x64x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1)

/-- Case A's pieces for scratch `arg13`, which the kernel carries between points, cover it: 1 piece of `S256x128` tiling it (Lib/Ring.lean `Piece.tiledL`). -/
theorem scover0_A_2 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1 S256x128.size (by sl_kernel_rfl) y

/-- What case A leaves in scratch `arg13`: its pieces read back over junk. -/
def sout0_A_2 : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1)

/-- Case A's pieces for scratch `arg15`, which the kernel carries between points, cover it: 2 pieces of `S256x128` tiling it (Lib/Ring.lean `Piece.tiledL`). -/
theorem scover0_A_4 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1 S256x128.size (by sl_kernel_rfl) y

/-- What case A leaves in scratch `arg15`: its pieces read back over junk. -/
def sout0_A_4 : Vec F S256x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1)

/-- Case A's pieces for scratch `arg16`, which the kernel carries between points, cover it: 2 pieces of `S256x128` tiling it (Lib/Ring.lean `Piece.tiledL`). -/
theorem scover0_A_5 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1 S256x128.size (by sl_kernel_rfl) y

/-- What case A leaves in scratch `arg16`: its pieces read back over junk. -/
def sout0_A_5 : Vec F S256x128 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1)

/-- Case A's pieces for scratch `arg17`, which the kernel carries between points, cover it: 2 pieces of `S256x128` tiling it (Lib/Ring.lean `Piece.tiledL`). -/
theorem scover0_A_6 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1 S256x128.size (by sl_kernel_rfl) y

/-- What case A leaves in scratch `arg17`: its pieces read back over junk. -/
def sout0_A_6 : Vec F S256x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1)

end CaseA

section CaseB

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32)

/-- Case B stores nothing into output 7 (the window is idle at its points and not written back there):
    no pieces — a placeholder (junk read back) that nothing consults, since at these points the window is neither
    written back nor read at the next point (Lib/Pipeline.lean "Idle points"). -/
def out0_B_7 : Vec F S4x8192 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).1)

/-- Case B stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_8 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32) (xo8 : Vec F S32x128 .fp8e4m3) : Vec F S32x128 .fp8e4m3 := xo8

/-- Case B stores nothing into output 9 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_9 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32) (xo9 : Vec F S32x128 .fp8e4m3) : Vec F S32x128 .fp8e4m3 := xo9

/-- Case B stores nothing into scratch `arg12`: it holds what the point before left. -/
def sout0_B_1 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32) : Vec F S4x64x256 .bf16 := xs1

/-- Case B stores nothing into scratch `arg13`: it holds what the point before left. -/
def sout0_B_2 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32) : Vec F S256x128 .f32 := xs2

/-- Case B's pieces for scratch `arg15`, which the kernel carries between points, cover it: 1 piece of `S256x128` tiling it (Lib/Ring.lean `Piece.tiledL`). -/
theorem scover0_B_4 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.1 S256x128.size (by sl_kernel_rfl) y

/-- What case B leaves in scratch `arg15`: its pieces read back over junk. -/
def sout0_B_4 : Vec F S256x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.1)

/-- Case B's pieces for scratch `arg16`, which the kernel carries between points, cover it: 1 piece of `S256x128` tiling it (Lib/Ring.lean `Piece.tiledL`). -/
theorem scover0_B_5 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.1 S256x128.size (by sl_kernel_rfl) y

/-- What case B leaves in scratch `arg16`: its pieces read back over junk. -/
def sout0_B_5 : Vec F S256x128 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.1)

/-- Case B's pieces for scratch `arg17`, which the kernel carries between points, cover it: 1 piece of `S256x128` tiling it (Lib/Ring.lean `Piece.tiledL`). -/
theorem scover0_B_6 (y : S256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.2.1 S256x128.size (by sl_kernel_rfl) y

/-- What case B leaves in scratch `arg17`: its pieces read back over junk. -/
def sout0_B_6 : Vec F S256x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.2.1)

end CaseB

section CaseC

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32)

/-- Case C's pieces for output 7 tile its block (64 stores of `S4x128`, checked by the kernel's evaluation: Lib/Ring.lean `Piece.tiledL`, linear in the pieces, through a loop's `@[irreducible]` trip theorem too), so they cover it. -/
theorem cover0_C_7 (y : S4x8192.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).1 S4x128.size (by sl_kernel_rfl) y

/-- What case C leaves in output 7's staging buffer: its pieces read back over junk. -/
def out0_C_7 : Vec F S4x8192 .bf16 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).1)

/-- Case C stores nothing into output 8, a live window: its staging buffer holds what the point before left. -/
def out0_C_8 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32) : Vec F S32x128 .fp8e4m3 := xo8

/-- Case C stores nothing into output 9, a live window: its staging buffer holds what the point before left. -/
def out0_C_9 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32) : Vec F S32x128 .fp8e4m3 := xo9

/-- Case C stores nothing into scratch `arg12`: it holds what the point before left. -/
def sout0_C_1 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32) : Vec F S4x64x256 .bf16 := xs1

/-- Case C stores nothing into scratch `arg13`: it holds what the point before left. -/
def sout0_C_2 (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32) : Vec F S256x128 .f32 := xs2

/-- Case C's pieces for scratch `arg15`, which the kernel carries between points, cover it: 1 piece of `S256x128` tiling it (Lib/Ring.lean `Piece.tiledL`). -/
theorem scover0_C_4 (y : S256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.1 S256x128.size (by sl_kernel_rfl) y

/-- What case C leaves in scratch `arg15`: its pieces read back over junk. -/
def sout0_C_4 : Vec F S256x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.1)

/-- Case C's pieces for scratch `arg16`, which the kernel carries between points, cover it: 1 piece of `S256x128` tiling it (Lib/Ring.lean `Piece.tiledL`). -/
theorem scover0_C_5 (y : S256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.1 S256x128.size (by sl_kernel_rfl) y

/-- What case C leaves in scratch `arg16`: its pieces read back over junk. -/
def sout0_C_5 : Vec F S256x128 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.1)

/-- Case C's pieces for scratch `arg17`, which the kernel carries between points, cover it: 1 piece of `S256x128` tiling it (Lib/Ring.lean `Piece.tiledL`). -/
theorem scover0_C_6 (y : S256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.2.1 S256x128.size (by sl_kernel_rfl) y

/-- What case C leaves in scratch `arg17`: its pieces read back over junk. -/
def sout0_C_6 : Vec F S256x128 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.2.1)

end CaseC

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 64 = 63 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (outsAt0 c n (Nat.lt_of_succ_lt hn)).2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 64 = 0) (h1 : ¬t.val % 64 = 63) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (outsAt0 m c (t.val - 1) (Nat.lt_of_le_of_lt (Nat.sub_le _ _) t.isLt)).2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2.1) ∗ (∃ d, owns (c : Thread nD τ) scM0_3 fullShare d) ∗ owns (c : Thread nD τ) scM0_4 fullShare ((outsAt0 m c n hn).2.2.2.2.2.1) ∗ owns (c : Thread nD τ) scM0_5 fullShare ((outsAt0 m c n hn).2.2.2.2.2.2.1) ∗ owns (c : Thread nD τ) scM0_6 fullShare ((outsAt0 m c n hn).2.2.2.2.2.2.2) ∗ (∃ d, owns (c : Thread nD τ) scM0_7 fullShare d) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.1) ∗ owns (c : Thread nD τ) scM0_2 fullShare ((outsAt0 m c n hn).2.2.2.2.1) ∗ (∃ d, owns (c : Thread nD τ) scM0_3 fullShare d) ∗ owns (c : Thread nD τ) scM0_4 fullShare ((outsAt0 m c n hn).2.2.2.2.2.1) ∗ owns (c : Thread nD τ) scM0_5 fullShare ((outsAt0 m c n hn).2.2.2.2.2.2.1) ∗ owns (c : Thread nD τ) scM0_6 fullShare ((outsAt0 m c n hn).2.2.2.2.2.2.2) ∗ (∃ d, owns (c : Thread nD τ) scM0_7 fullShare d) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.1) ∗ owns (c : Thread nD τ) scM0_2 fullShare ((outsAt0 m c (n - 1) (by omega)).2.2.2.2.1) ∗ (∃ d, owns (c : Thread nD τ) scM0_3 fullShare d) ∗ owns (c : Thread nD τ) scM0_4 fullShare ((outsAt0 m c (n - 1) (by omega)).2.2.2.2.2.1) ∗ owns (c : Thread nD τ) scM0_5 fullShare ((outsAt0 m c (n - 1) (by omega)).2.2.2.2.2.2.1) ∗ owns (c : Thread nD τ) scM0_6 fullShare ((outsAt0 m c (n - 1) (by omega)).2.2.2.2.2.2.2) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 64 := lt_of_lt_of_eq t.isLt (show cfg0.N = 64 from N_0)
  rw [after0_8, after0_8]
  by_cases h0 : t.val % 64 = 0
  · by_cases h1 : t.val % 64 = 63
    · exfalso; omega
    · rw [liveAt0_8_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_8
      rfl
    · rw [outsAt0_B m c t h0 h1]
      dsimp only
      unfold out0_B_8
      rfl

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 64 := lt_of_lt_of_eq t.isLt (show cfg0.N = 64 from N_0)
  rw [after0_9, after0_9]
  by_cases h0 : t.val % 64 = 0
  · by_cases h1 : t.val % 64 = 63
    · exfalso; omega
    · rw [liveAt0_9_A t ((hcond0_0 t).mpr h0) (fun h => h1 ((hcond0_1 t).mp h))] at hi
      exact absurd hi Bool.false_ne_true
  · by_cases h1 : t.val % 64 = 63
    · rw [outsAt0_C m c t h0 h1]
      dsimp only
      unfold out0_C_9
      rfl
    · rw [outsAt0_B m c t h0 h1]
      dsimp only
      unfold out0_B_9
      rfl
/-- At a point of case C output 8's current staging buffer holds what the point before left: the buffer is not fresh
    there (`notFresh0_8_C`: stored into since the region's entry or the last write-back, carried through the points that
    leave it idle by `hcarry0_8`; Lib/Pipeline/TableIdle.lean `Dat.before_out_traj`). -/
theorem before0_8_C (c : Dev nD) (t : Fin cfg0.N) (h0 : ¬t.val % 64 = 0) (h1 : t.val % 64 = 63) (d) :
    (dats m 0 c).before 8 t d = (outsAt0 m c (t.val - 1) (Nat.lt_of_le_of_lt (Nat.sub_le _ _) t.isLt)).2.1 := by
  rw [Dat.before_out_traj _ 8 rfl (fun _ _ => rfl) (hcarry0_8 m c) t.val t rfl d,
    if_neg (by rw [notFresh0_8_C t (fun h => h0 ((hcond0_0 t).mp h)) ((hcond0_1 t).mpr h1)]; exact Bool.false_ne_true)]
  dsimp only [dats]
/-- At a point of case C output 9's current staging buffer holds what the point before left: the buffer is not fresh
    there (`notFresh0_9_C`: stored into since the region's entry or the last write-back, carried through the points that
    leave it idle by `hcarry0_9`; Lib/Pipeline/TableIdle.lean `Dat.before_out_traj`). -/
theorem before0_9_C (c : Dev nD) (t : Fin cfg0.N) (h0 : ¬t.val % 64 = 0) (h1 : t.val % 64 = 63) (d) :
    (dats m 0 c).before 9 t d = (outsAt0 m c (t.val - 1) (Nat.lt_of_le_of_lt (Nat.sub_le _ _) t.isLt)).2.2.1 := by
  rw [Dat.before_out_traj _ 9 rfl (fun _ _ => rfl) (hcarry0_9 m c) t.val t rfl d,
    if_neg (by rw [notFresh0_9_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      by_cases hz : t.val = 0
      · rw [PhiS_castSucc m c t, PhiS_zero m c _ _ hz, PhiA0_eq]
        rw [outsAt0_A m c t h0 h1]
        unfold out0_A_8 out0_A_9 sout0_A_1 sout0_A_2 sout0_A_4 sout0_A_5 sout0_A_6; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, ⟨%e8, H8⟩, ⟨%e9, H9⟩, ⟨%fT0, HS0⟩, ⟨%es1, HS1⟩, ⟨%es2, HS2⟩, ⟨%fT3, HS3⟩, ⟨%es4, HS4⟩, ⟨%es5, HS5⟩, ⟨%es6, HS6⟩, ⟨%fT7, HS7⟩, ⟨%fT8, HS8⟩⟩
        isplitl [HS0 HS1 HS2 HS3 HS4 HS5 HS6 HS7 HS8 Hg]
        · isplitl [HS0 HS1 HS2 HS3 HS4 HS5 HS6 HS7 HS8]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _)
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _)
            isplitl [HS7]
            · iexists _; unfold owns; iexists _; isplitr
              swap; · iexact HS7
              ipureintro; rfl
            iexists _; unfold owns; iexists _; isplitr
            swap; · iexact HS8
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _)
      · exfalso; have hN : t.val < 64 := lt_of_lt_of_eq t.isLt (show cfg0.N = 64 from N_0); omega
  · by_cases h1 : t.val % 64 = 63
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [idleAt0_8_C t (fun h => h0 ((hcond0_0 t).mp h)) ((hcond0_1 t).mpr h1), flushAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [idleAt0_9_C t (fun h => h0 ((hcond0_0 t).mp h)) ((hcond0_1 t).mpr h1), flushAt0_9_C t (fun h => h0 ((hcond0_0 t).mp h)) ((hcond0_1 t).mpr h1)], after0_9]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        simp only [before0_8_C m c t h0 h1, before0_9_C m c t h0 h1]
        unfold out0_C_7 out0_C_8 out0_C_9 sout0_C_1 sout0_C_2 sout0_C_4 sout0_C_5 sout0_C_6; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _ _ _ _ _).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, ⟨%e7, H7⟩, H8, H9, ⟨%fT0, HS0⟩, HS1, HS2, ⟨%fT3, HS3⟩, ⟨%es4, HS4⟩, ⟨%es5, HS5⟩, ⟨%es6, HS6⟩, ⟨%fT7, HS7⟩, ⟨%fT8, HS8⟩⟩
        isplitl [HS0 HS1 HS2 HS3 HS4 HS5 HS6 HS7 HS8 Hg]
        · isplitl [HS0 HS1 HS2 HS3 HS4 HS5 HS6 HS7 HS8]
          · isplitl [HS0]
            · iexists _; unfold owns; iexists _; isplitr
              swap; · iexact HS0
              ipureintro; rfl
            isplitl [HS1]
            · iexact HS1
            isplitl [HS2]
            · iexact HS2
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _ _ _ _ _ _ _ _)
            isplitl [HS7]
            · iexists _; unfold owns; iexists _; isplitr
              swap; · iexact HS7
              ipureintro; rfl
            iexists _; unfold owns; iexists _; isplitr
            swap; · iexact HS8
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _ _ _ _ _ _ _ _ _ _ _ _)
        isplitl [H8]; · iexact H8
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold sout0_B_1 sout0_B_2 sout0_B_4 sout0_B_5 sout0_B_6; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ _ _).2.2.2.2.2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, HS0, HS1, HS2, ⟨%fT3, HS3⟩, ⟨%es4, HS4⟩, ⟨%es5, HS5⟩, ⟨%es6, HS6⟩, ⟨%fT7, HS7⟩, ⟨%fT8, HS8⟩⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexists _; unfold owns; iexists _; isplitr
              swap; · iexact HS3
              ipureintro; rfl
            isplitl [HS4]
            · unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _)
            isplitl [HS5]
            · unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _)
            isplitl [HS7]
            · iexists _; unfold owns; iexists _; isplitr
              swap; · iexact HS7
              ipureintro; rfl
            iexists _; unfold owns; iexists _; isplitr
            swap; · iexact HS8
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexact HS0
    isplitl [HS1]
    · iexists _; iexact HS1
    isplitl [HS2]
    · iexists _; iexact HS2
    isplitl [HS3]
    · iexact HS3
    isplitl [HS4]
    · iexists _; iexact HS4
    isplitl [HS5]
    · iexists _; iexact HS5
    isplitl [HS6]
    · iexists _; iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Run.KernelFrame.lean ====
/- The frame of the kernel at the machine's formats. The kernel and its ideal print are one program but for the naming of a
   constant, so the ideal print's frame, proved at any number formats, is the kernel's once the name is read as its bits. -/
module

public import proofs.«01_k».proof.Proof.Gen.Kernel
public import proofs.«01_k».proof.Proof.Run.Frame

@[expose] public section

set_option maxRecDepth 100000
set_option maxHeartbeats 4000000

noncomputable section

namespace Cert.Kernel.Gen

open Idealize.ShloMosaic Idealize.ShloMosaic.TcCoe Idealize.SL.Sem

variable {F : FTy → Type} [FloatOps F]

/-- A named constant read as its bits. -/
abbrev bitsNamed : Named F := ⟨fun _ _ {φ} b => FloatOps.ofBits φ b⟩

/-- The two programs' functions are the same. -/
theorem defs_eq : @Cert.Kernel.defs F _ _ = @Cert.KernelIdeal.defs F _ bitsNamed _ := by
  sl_kernel_rfl

variable (m : (ℓ : Loc nD τ sig) → Buf (Elt F) ℓ) (ρ : Dev nD → PrngReg)

/-- The kernel runs, ends with its arguments as they were and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact @Cert.KernelIdeal.Gen.frame F _ bitsNamed m ρ

end Cert.Kernel.Gen

end
-- ==== Proof.Run.Value.lean ====
/- The arrays after the run: `run_blocks` names each output array, `outsAt0_sweep` says the outputs and the carried
   scratch after a point are one fold of `stAt0` from the first point, `final7` to `final9` read the output arrays off
   that fold, and `run` is the frame run with these equations. -/
module

public import proofs.«01_k».proof.Proof.Run.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 0 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 0).trans (((dats m 0 c).arrAt_in 0 rfl _).trans ((A_eq m c 0).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 1 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 1).trans (((dats m 0 c).arrAt_in 1 rfl _).trans ((A_eq m c 1).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 7 cfg0.N
      ∧ r.2.mem ((c : Thread nD τ).loc main_v5_1) = (dats m 0 c).arrAt 8 cfg0.N
      ∧ r.2.mem ((c : Thread nD τ).loc main_v5_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 1: what each point leaves in it, and its fold -/

/-! ## Carried scratch 2: what each point leaves in it, and its fold -/

/-! ## Carried scratch 4: what each point leaves in it, and its fold -/

/-! ## Carried scratch 5: what each point leaves in it, and its fold -/

/-! ## Carried scratch 6: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32 :=
  ((VO0_7.read (Elt F) VO0_7.junk, VO0_8.read (Elt F) VO0_8.junk, VO0_9.read (Elt F) VO0_9.junk, VS0_1.read (Elt F) VS0_1.junk, VS0_2.read (Elt F) VS0_2.junk, VS0_4.read (Elt F) VS0_4.junk, VS0_5.read (Elt F) VS0_5.junk, VS0_6.read (Elt F) VS0_6.junk) : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32) : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32 :=
  if h0 : n % 64 = 0 then
    if h1 : n % 64 = 63 then
      False.elim (by have hN : n < 64 := lt_of_lt_of_eq hb (show cfg0.N = 64 from N_0); omega)
    else
      (out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)), sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)))
  else
    if h1 : n % 64 = 63 then
      (out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, out0_C_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, sout0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2, sout0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.1 acc.2.2.1 acc.2.2.2.1 acc.2.2.2.2.1 acc.2.2.2.2.2.1 acc.2.2.2.2.2.2.1 acc.2.2.2.2.2.2.2)
    else
      (out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2 acc.2.1, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2 acc.2.2.1, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2, sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2, sout0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2, sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc.2.2.2.1 acc.2.2.2.2.1 acc.2.2.2.2.2.1 acc.2.2.2.2.2.2.1 acc.2.2.2.2.2.2.2)

/-- `stAt0` at a point of case A: that case's contents. -/
theorem stAt0_A (c : Dev nD) (t : Fin cfg0.N) (acc : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32) (h0 : t.val % 64 = 0) (h1 : ¬t.val % 64 = 63) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) :=
  (dif_pos h0).trans ((dif_neg h1).trans rfl)

/-- `stAt0` at a point of case B: that case's contents, over `acc`. -/
theorem stAt0_B (c : Dev nD) (t : Fin cfg0.N) (acc : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32) (h0 : ¬t.val % 64 = 0) (h1 : ¬t.val % 64 = 63) :
    stAt0 m c t.val t.isLt acc = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2 acc.2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2 acc.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2.1 acc.2.2.2.2.2.1 acc.2.2.2.2.2.2.1 acc.2.2.2.2.2.2.2) :=
  (dif_neg h0).trans ((dif_neg h1).trans rfl)

/-- `stAt0` at a point of case C: that case's contents, over `acc`. -/
theorem stAt0_C (c : Dev nD) (t : Fin cfg0.N) (acc : Vec F S4x8192 .bf16 × Vec F S32x128 .fp8e4m3 × Vec F S32x128 .fp8e4m3 × Vec F S4x64x256 .bf16 × Vec F S256x128 .f32 × Vec F S256x128 .f32 × Vec F S256x128 .f32 × Vec F S256x128 .f32) (h0 : ¬t.val % 64 = 0) (h1 : t.val % 64 = 63) :
    stAt0 m c t.val t.isLt acc = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc.2.1 acc.2.2.1 acc.2.2.2.1 acc.2.2.2.2.1 acc.2.2.2.2.2.1 acc.2.2.2.2.2.2.1 acc.2.2.2.2.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one every 64 points),
    `i`'s place in it, and the point that writes it back (the last of its 64). -/
abbrev run7Of (i : S4x8192.Idx) : ℕ := 1 * ((i 0).val / 4 - 0) + 1 * ((i 1).val / 8192 - 0)
set_option backward.proofsInPublic true in
abbrev loc7Of (i : S4x8192.Idx) : S4x8192.Idx := fun a => match a with
  | ⟨0, _⟩ => ⟨(i 0).val % 4, Nat.mod_lt _ (by decide)⟩
  | ⟨1, _⟩ => ⟨(i 1).val % 8192, Nat.mod_lt _ (by decide)⟩
abbrev pt7Of (i : S4x8192.Idx) : ℕ := 64 * run7Of i + 63

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v5_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t / 64`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 64 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨64 * (1 * q0.val + 1 * q1.val) + 63, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 64 = 63 := (flush0_7 t).mp hf
  obtain ⟨e0, e1, e2⟩ := idx_facts7 t
  funext y
  have hy0 : (y 0).val < 4 := (y 0).isLt
  have hy1 : (y 1).val < 8192 := (y 1).isLt
  have hb0 : (((cfg0.win 7).blk t).view.emb y 0).val = win0_7.index t (0 : Fin 2) * 4 + 1 * (y 0).val := rfl
  have hb1 : (((cfg0.win 7).blk t).view.emb y 1).val = win0_7.index t (1 : Fin 2) * 8192 + 1 * (y 1).val := rfl
  have hr : run7Of (((cfg0.win 7).blk t).view.emb y) = t.val / 64 := by
    show 1 * ((((cfg0.win 7).blk t).view.emb y 0).val / 4 - 0) + 1 * ((((cfg0.win 7).blk t).view.emb y 1).val / 8192 - 0) = _
    rw [hb0, hb1]
    rw [show (win0_7.index t (0 : Fin 2) * 4 + 1 * (y 0).val) / 4 = win0_7.index t (0 : Fin 2) from by omega]; rw [show (win0_7.index t (1 : Fin 2) * 8192 + 1 * (y 1).val) / 8192 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 4 = (y 0).val; rw [hb0]; omega
    | ⟨1, _⟩ => show (((cfg0.win 7).blk t).view.emb y 1).val % 8192 = (y 1).val; rw [hb1]; omega
  have hp : pt7Of (((cfg0.win 7).blk t).view.emb y) = t.val := by
    show 64 * run7Of (((cfg0.win 7).blk t).view.emb y) + 63 = _
    rw [hr]; have := Nat.div_add_mod t.val 64; omega
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S4x8192.Idx) :
    i ∈ ((cfg0.win 7).blk t).view.set ↔ ∀ a : Fin 2, win0_7.index t a * S4x8192.size a ≤ (i a).val ∧ (i a).val < win0_7.index t a * S4x8192.size a + S4x8192.size a := by
  show i ∈ ((View.whole main_v5_0).slice (win0_7.rect t)).set ↔ _
  rw [View.set_slice_whole, Rect.mem_set_unit]
  exact Iff.rfl

/-- THE COVERED INDICES: in some flushing point's block iff inside the box those blocks fill. -/
theorem covered_iff7 (i : S4x8192.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 8192 := by
  constructor
  · rintro ⟨t, -, hi⟩
    rw [mem_blk7] at hi
    have b0 : win0_7.index t (0 : Fin 2) * 4 ≤ (i 0).val ∧ (i 0).val < win0_7.index t (0 : Fin 2) * 4 + 4 := hi 0
    have b1 : win0_7.index t (1 : Fin 2) * 8192 ≤ (i 1).val ∧ (i 1).val < win0_7.index t (1 : Fin 2) * 8192 + 8192 := hi 1
    obtain ⟨e0, e1, e2⟩ := idx_facts7 t
    omega
  · intro h
    have hi0 : (i 0).val < 4 := (i 0).isLt
    have hi1 : (i 1).val < 8192 := (i 1).isLt
    obtain ⟨t, hft, ht⟩ := idx_onto7 ⟨(i 0).val / 4 - 0, by omega⟩ ⟨(i 1).val / 8192 - 0, by omega⟩
    have q0 : win0_7.index t (0 : Fin 2) = (i 0).val / 4 - 0 + 0 := congrFun ht 0
    have q1 : win0_7.index t (1 : Fin 2) = (i 1).val / 8192 - 0 + 0 := congrFun ht 1
    refine ⟨t, hft, ?_⟩
    rw [mem_blk7]
    intro a
    match a with
    | ⟨0, _⟩ => show win0_7.index t (0 : Fin 2) * 4 ≤ (i 0).val ∧ (i 0).val < win0_7.index t (0 : Fin 2) * 4 + 4; omega
    | ⟨1, _⟩ => show win0_7.index t (1 : Fin 2) * 8192 ≤ (i 1).val ∧ (i 1).val < win0_7.index t (1 : Fin 2) * 8192 + 8192; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 8192 := (i 1).isLt; omega))

/-- Output 7 is written back ONCE, at the last point, and its block is its array: the array after the run is output 7's
    component of the fold over the whole grid — where a hand proof over this window starts. -/
theorem G7_last (c : Dev nD) :
    G7 m c = (Pipeline.accAt (fun n h => stAt0 m c n h junk0) (stAt0 m c) 0 63 (lt_of_lt_of_eq (by decide) N_0.symm)).1 := by
  funext i
  have hi0 : (i 0).val < 4 := (i 0).isLt
  have hi1 : (i 1).val < 8192 := (i 1).isLt
  have hp : pt7Of i = 63 := by
    show 64 * (1 * ((i 0).val / 4 - 0) + 1 * ((i 1).val / 8192 - 0)) + 63 = _
    omega
  have hl : loc7Of i = i := by
    funext a; apply Fin.ext
    match a with
    | ⟨0, _⟩ => show (i 0).val % 4 = (i 0).val; omega
    | ⟨1, _⟩ => show (i 1).val % 8192 = (i 1).val; omega
  unfold G7
  rw [dif_pos (by rw [hp]; exact lt_of_lt_of_eq (by decide) N_0.symm), hl, fold0_congr m c _ _ _ _ hp]

/-! ## Output window 8 -/

/-- The block of the array that holds index `i`, numbered in the order the points write the blocks back (one every 64 points),
    `i`'s place in it, and the point that writes it back (the last of its 64). -/
abbrev run8Of (i : S32x128.Idx) : ℕ := 1 * ((i 0).val / 32 - 0) + 1 * ((i 1).val / 128 - 0)
set_option backward.proofsInPublic true in
abbrev loc8Of (i : S32x128.Idx) : S32x128.Idx := fun a => match a with
  | ⟨0, _⟩ => ⟨(i 0).val % 32, Nat.mod_lt _ (by decide)⟩
  | ⟨1, _⟩ => ⟨(i 1).val % 128, Nat.mod_lt _ (by decide)⟩
abbrev pt8Of (i : S32x128.Idx) : ℕ := 64 * run8Of i + 63

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v5_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t / 64`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 0
    ∧ 1 * (win0_8.index t (0 : Fin 2) - 0) + 1 * (win0_8.index t (1 : Fin 2) - 0) = t.val / 64 :=
  (by decide +kernel : ∀ t : Fin grid0.N, _)

/-- Every block of the box is SOME flushing point's: `onto8Pt`, the point that writes back the block at place `q` of the box (the last point of its run). -/
abbrev onto8Pt (q0 : Fin 1) (q1 : Fin 1) : Fin grid0.N :=
  ⟨64 * (1 * q0.val + 1 * q1.val) + 63, lt_of_lt_of_eq (by omega) N_0.symm⟩
theorem idx_onto8 : ∀ (q0 : Fin 1) (q1 : Fin 1), ∃ t : Fin cfg0.N, (cfg0.win 8).flush t = true ∧ win0_8.index t = ![q0.val + 0, q1.val + 0] :=
  fun q0 q1 => ⟨onto8Pt q0 q1, (by decide +kernel : ∀ (q0 : Fin 1) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 64 = 63 := (flush0_8 t).mp hf
  obtain ⟨e0, e1, e2⟩ := idx_facts8 t
  funext y
  have hy0 : (y 0).val < 32 := (y 0).isLt
  have hy1 : (y 1).val < 128 := (y 1).isLt
  have hb0 : (((cfg0.win 8).blk t).view.emb y 0).val = win0_8.index t (0 : Fin 2) * 32 + 1 * (y 0).val := rfl
  have hb1 : (((cfg0.win 8).blk t).view.emb y 1).val = win0_8.index t (1 : Fin 2) * 128 + 1 * (y 1).val := rfl
  have hr : run8Of (((cfg0.win 8).blk t).view.emb y) = t.val / 64 := by
    show 1 * ((((cfg0.win 8).blk t).view.emb y 0).val / 32 - 0) + 1 * ((((cfg0.win 8).blk t).view.emb y 1).val / 128 - 0) = _
    rw [hb0, hb1]
    rw [show (win0_8.index t (0 : Fin 2) * 32 + 1 * (y 0).val) / 32 = win0_8.index t (0 : Fin 2) from by omega]; rw [show (win0_8.index t (1 : Fin 2) * 128 + 1 * (y 1).val) / 128 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 32 = (y 0).val; rw [hb0]; omega
    | ⟨1, _⟩ => show (((cfg0.win 8).blk t).view.emb y 1).val % 128 = (y 1).val; rw [hb1]; omega
  have hp : pt8Of (((cfg0.win 8).blk t).view.emb y) = t.val := by
    show 64 * run8Of (((cfg0.win 8).blk t).view.emb y) + 63 = _
    rw [hr]; have := Nat.div_add_mod t.val 64; omega
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S32x128.Idx) :
    i ∈ ((cfg0.win 8).blk t).view.set ↔ ∀ a : Fin 2, win0_8.index t a * S32x128.size a ≤ (i a).val ∧ (i a).val < win0_8.index t a * S32x128.size a + S32x128.size a := by
  show i ∈ ((View.whole main_v5_1).slice (win0_8.rect t)).set ↔ _
  rw [View.set_slice_whole, Rect.mem_set_unit]
  exact Iff.rfl

/-- THE COVERED INDICES: in some flushing point's block iff inside the box those blocks fill. -/
theorem covered_iff8 (i : S32x128.Idx) :
    (∃ t : Fin cfg0.N, (cfg0.win 8).flush t = true ∧ i ∈ ((cfg0.win 8).blk t).view.set) ↔ 0 ≤ (i 0).val ∧ (i 0).val < 32 ∧ 0 ≤ (i 1).val ∧ (i 1).val < 128 := by
  constructor
  · rintro ⟨t, -, hi⟩
    rw [mem_blk8] at hi
    have b0 : win0_8.index t (0 : Fin 2) * 32 ≤ (i 0).val ∧ (i 0).val < win0_8.index t (0 : Fin 2) * 32 + 32 := hi 0
    have b1 : win0_8.index t (1 : Fin 2) * 128 ≤ (i 1).val ∧ (i 1).val < win0_8.index t (1 : Fin 2) * 128 + 128 := hi 1
    obtain ⟨e0, e1, e2⟩ := idx_facts8 t
    omega
  · intro h
    have hi0 : (i 0).val < 32 := (i 0).isLt
    have hi1 : (i 1).val < 128 := (i 1).isLt
    obtain ⟨t, hft, ht⟩ := idx_onto8 ⟨(i 0).val / 32 - 0, by omega⟩ ⟨(i 1).val / 128 - 0, by omega⟩
    have q0 : win0_8.index t (0 : Fin 2) = (i 0).val / 32 - 0 + 0 := congrFun ht 0
    have q1 : win0_8.index t (1 : Fin 2) = (i 1).val / 128 - 0 + 0 := congrFun ht 1
    refine ⟨t, hft, ?_⟩
    rw [mem_blk8]
    intro a
    match a with
    | ⟨0, _⟩ => show win0_8.index t (0 : Fin 2) * 32 ≤ (i 0).val ∧ (i 0).val < win0_8.index t (0 : Fin 2) * 32 + 32; omega
    | ⟨1, _⟩ => show win0_8.index t (1 : Fin 2) * 128 ≤ (i 1).val ∧ (i 1).val < win0_8.index t (1 : Fin 2) * 128 + 128; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 32 := (i 0).isLt; have h1 : (i 1).val < 128 := (i 1).isLt; omega))

/-- Output 8 is written back ONCE, at the last point, and its block is its array: the array after the run is output 8's
    component of the fold over the whole grid — where a hand proof over this window starts. -/
theorem G8_last (c : Dev nD) :
    G8 m c = (Pipeline.accAt (fun n h => stAt0 m c n h junk0) (stAt0 m c) 0 63 (lt_of_lt_of_eq (by decide) N_0.symm)).2.1 := by
  funext i
  have hi0 : (i 0).val < 32 := (i 0).isLt
  have hi1 : (i 1).val < 128 := (i 1).isLt
  have hp : pt8Of i = 63 := by
    show 64 * (1 * ((i 0).val / 32 - 0) + 1 * ((i 1).val / 128 - 0)) + 63 = _
    omega
  have hl : loc8Of i = i := by
    funext a; apply Fin.ext
    match a with
    | ⟨0, _⟩ => show (i 0).val % 32 = (i 0).val; omega
    | ⟨1, _⟩ => show (i 1).val % 128 = (i 1).val; omega
  unfold G8
  rw [dif_pos (by rw [hp]; exact lt_of_lt_of_eq (by decide) N_0.symm), hl, fold0_congr m c _ _ _ _ hp]

/-! ## Output window 9 -/

/-- The block of the array that holds index `i`, numbered in the order the points write the blocks back (one every 64 points),
    `i`'s place in it, and the point that writes it back (the last of its 64). -/
abbrev run9Of (i : S32x128.Idx) : ℕ := 1 * ((i 0).val / 32 - 0) + 1 * ((i 1).val / 128 - 0)
set_option backward.proofsInPublic true in
abbrev loc9Of (i : S32x128.Idx) : S32x128.Idx := fun a => match a with
  | ⟨0, _⟩ => ⟨(i 0).val % 32, Nat.mod_lt _ (by decide)⟩
  | ⟨1, _⟩ => ⟨(i 1).val % 128, Nat.mod_lt _ (by decide)⟩
abbrev pt9Of (i : S32x128.Idx) : ℕ := 64 * run9Of i + 63

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v5_2) := fun i =>
  if h : pt9Of i < cfg0.N then
    (Pipeline.accAt (fun n h => stAt0 m c n h junk0) (stAt0 m c) 0 (pt9Of i) (by omega)).2.2.1 (loc9Of i)
  else V m c (Pipeline.arrRef spec0 9) i

/-- The printed index map, decided over the grid: output window 9's block indices stay in the box, and the block number
    read off them is the point's (`t / 64`). -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 0
    ∧ 1 * (win0_9.index t (0 : Fin 2) - 0) + 1 * (win0_9.index t (1 : Fin 2) - 0) = t.val / 64 :=
  (by decide +kernel : ∀ t : Fin grid0.N, _)

/-- Every block of the box is SOME flushing point's: `onto9Pt`, the point that writes back the block at place `q` of the box (the last point of its run). -/
abbrev onto9Pt (q0 : Fin 1) (q1 : Fin 1) : Fin grid0.N :=
  ⟨64 * (1 * q0.val + 1 * q1.val) + 63, lt_of_lt_of_eq (by omega) N_0.symm⟩
theorem idx_onto9 : ∀ (q0 : Fin 1) (q1 : Fin 1), ∃ t : Fin cfg0.N, (cfg0.win 9).flush t = true ∧ win0_9.index t = ![q0.val + 0, q1.val + 0] :=
  fun q0 q1 => ⟨onto9Pt q0 q1, (by decide +kernel : ∀ (q0 : Fin 1) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 64 = 63 := (flush0_9 t).mp hf
  obtain ⟨e0, e1, e2⟩ := idx_facts9 t
  funext y
  have hy0 : (y 0).val < 32 := (y 0).isLt
  have hy1 : (y 1).val < 128 := (y 1).isLt
  have hb0 : (((cfg0.win 9).blk t).view.emb y 0).val = win0_9.index t (0 : Fin 2) * 32 + 1 * (y 0).val := rfl
  have hb1 : (((cfg0.win 9).blk t).view.emb y 1).val = win0_9.index t (1 : Fin 2) * 128 + 1 * (y 1).val := rfl
  have hr : run9Of (((cfg0.win 9).blk t).view.emb y) = t.val / 64 := by
    show 1 * ((((cfg0.win 9).blk t).view.emb y 0).val / 32 - 0) + 1 * ((((cfg0.win 9).blk t).view.emb y 1).val / 128 - 0) = _
    rw [hb0, hb1]
    rw [show (win0_9.index t (0 : Fin 2) * 32 + 1 * (y 0).val) / 32 = win0_9.index t (0 : Fin 2) from by omega]; rw [show (win0_9.index t (1 : Fin 2) * 128 + 1 * (y 1).val) / 128 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 32 = (y 0).val; rw [hb0]; omega
    | ⟨1, _⟩ => show (((cfg0.win 9).blk t).view.emb y 1).val % 128 = (y 1).val; rw [hb1]; omega
  have hp : pt9Of (((cfg0.win 9).blk t).view.emb y) = t.val := by
    show 64 * run9Of (((cfg0.win 9).blk t).view.emb y) + 63 = _
    rw [hr]; have := Nat.div_add_mod t.val 64; omega
  show (Pipeline.accAt (fun n h => stAt0 m c n h junk0) (stAt0 m c) 0 t.val _).2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S32x128.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v5_2).slice (win0_9.rect t)).set ↔ _
  rw [View.set_slice_whole, Rect.mem_set_unit]
  exact Iff.rfl

/-- THE COVERED INDICES: in some flushing point's block iff inside the box those blocks fill. -/
theorem covered_iff9 (i : S32x128.Idx) :
    (∃ t : Fin cfg0.N, (cfg0.win 9).flush t = true ∧ i ∈ ((cfg0.win 9).blk t).view.set) ↔ 0 ≤ (i 0).val ∧ (i 0).val < 32 ∧ 0 ≤ (i 1).val ∧ (i 1).val < 128 := by
  constructor
  · rintro ⟨t, -, hi⟩
    rw [mem_blk9] at hi
    have b0 : win0_9.index t (0 : Fin 2) * 32 ≤ (i 0).val ∧ (i 0).val < win0_9.index t (0 : Fin 2) * 32 + 32 := hi 0
    have b1 : win0_9.index t (1 : Fin 2) * 128 ≤ (i 1).val ∧ (i 1).val < win0_9.index t (1 : Fin 2) * 128 + 128 := hi 1
    obtain ⟨e0, e1, e2⟩ := idx_facts9 t
    omega
  · intro h
    have hi0 : (i 0).val < 32 := (i 0).isLt
    have hi1 : (i 1).val < 128 := (i 1).isLt
    obtain ⟨t, hft, ht⟩ := idx_onto9 ⟨(i 0).val / 32 - 0, by omega⟩ ⟨(i 1).val / 128 - 0, by omega⟩
    have q0 : win0_9.index t (0 : Fin 2) = (i 0).val / 32 - 0 + 0 := congrFun ht 0
    have q1 : win0_9.index t (1 : Fin 2) = (i 1).val / 128 - 0 + 0 := congrFun ht 1
    refine ⟨t, hft, ?_⟩
    rw [mem_blk9]
    intro a
    match a with
    | ⟨0, _⟩ => show win0_9.index t (0 : Fin 2) * 32 ≤ (i 0).val ∧ (i 0).val < win0_9.index t (0 : Fin 2) * 32 + 32; omega
    | ⟨1, _⟩ => show win0_9.index t (1 : Fin 2) * 128 ≤ (i 1).val ∧ (i 1).val < win0_9.index t (1 : Fin 2) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 32 := (i 0).isLt; have h1 : (i 1).val < 128 := (i 1).isLt; omega))

/-- Output 9 is written back ONCE, at the last point, and its block is its array: the array after the run is output 9's
    component of the fold over the whole grid — where a hand proof over this window starts. -/
theorem G9_last (c : Dev nD) :
    G9 m c = (Pipeline.accAt (fun n h => stAt0 m c n h junk0) (stAt0 m c) 0 63 (lt_of_lt_of_eq (by decide) N_0.symm)).2.2.1 := by
  funext i
  have hi0 : (i 0).val < 32 := (i 0).isLt
  have hi1 : (i 1).val < 128 := (i 1).isLt
  have hp : pt9Of i = 63 := by
    show 64 * (1 * ((i 0).val / 32 - 0) + 1 * ((i 1).val / 128 - 0)) + 63 = _
    omega
  have hl : loc9Of i = i := by
    funext a; apply Fin.ext
    match a with
    | ⟨0, _⟩ => show (i 0).val % 32 = (i 0).val; omega
    | ⟨1, _⟩ => show (i 1).val % 128 = (i 1).val; omega
  unfold G9
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v5_0) = G7 m c
      ∧ r.2.mem ((c : Thread nD τ).loc main_v5_1) = G8 m c
      ∧ r.2.mem ((c : Thread nD τ).loc main_v5_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Val.Step.lean ====
/- One grid point's arithmetic, written once for every chunk, quad and pair of heads: the tiles of codes put together
   from the 32-bit words, the logits, the running maximum, the exponentials, and the new sums. Everything is a function
   of what the body loads, so the three cases of the body share it. -/
module

public import proofs.«01_k».proof.Proof.Gen.KernelIdeal.Skeleton
public import Idealize.ShloMosaic.Lib.Pipeline.Value

@[expose] public section

noncomputable section

namespace Cert.KernelIdeal.Step

open Cert.KernelIdeal Cert.KernelIdeal.Gen Idealize.ShloMosaic Idealize.SL.Sem

variable {F : FTy → Type} [FloatOps F] [Named F]

/-- The `n`-th of four values. -/
def pick4 {α : Type} (n : ℕ) (a b c d : α) : α :=
  match n with
  | 0 => a
  | 1 => b
  | 2 => c
  | _ => d

/-- The low halves of two word arrays, side by side. -/
def lows (a b : IVec S64x128 32) : IVec S64x128 32 := packElementwiseI16 a b

/-- The high halves of two word arrays, side by side. -/
def highs (a b : IVec S64x128 32) : IVec S64x128 32 :=
  packElementwiseI16 (shrsi a (broadcast S64x128 16#32)) (shrsi b (broadcast S64x128 16#32))

/-- The even bytes of two word arrays, interleaved. -/
def evens (a b : IVec S64x128 32) : IVec S64x128 32 :=
  ori (andi a (broadcast S64x128 16711935#32)) (shli (andi b (broadcast S64x128 16711935#32)) (broadcast S64x128 8#32))

/-- The odd bytes of two word arrays, interleaved. -/
def odds (a b : IVec S64x128 32) : IVec S64x128 32 :=
  evens (shrsi a (broadcast S64x128 8#32)) (shrsi b (broadcast S64x128 8#32))

/-- The words of head `b` of a quad, from the four word arrays read. -/
def tileWords (w0 w1 w2 w3 : IVec S64x128 32) (b : ℕ) : IVec S64x128 32 :=
  pick4 b (evens (lows w0 w2) (lows w1 w3)) (odds (lows w0 w2) (lows w1 w3))
    (evens (highs w0 w2) (highs w1 w3)) (odds (highs w0 w2) (highs w1 w3))

/-- The codes of head `b` of a quad in a chunk, from the word arrays `r` reads. -/
def tile (r : ℕ → IVec S64x128 32) (chunk quad b : ℕ) : FVec F S256x128 .fp8e4m3 :=
  bitcastToFloat .fp8e4m3 (bitcast S256x128 8
    (tileWords (r (2 * (chunk * 256 + 0 * 64) + quad)) (r (2 * (chunk * 256 + 1 * 64) + quad))
      (r (2 * (chunk * 256 + 2 * 64) + quad)) (r (2 * (chunk * 256 + 3 * 64) + quad)) b) bitcasts_S64x128_w32_S256x128_w8)

/-- The codes of the two heads of pair `p` in a chunk, side by side. -/
def tiles (r : ℕ → IVec S64x128 32) (chunk p : ℕ) : FVec F S256x256 .fp8e4m3 :=
  concatenate S256x256 1 [⟨S256x128, tile r chunk (p / 2) (2 * (p % 2))⟩, ⟨S256x128, tile r chunk (p / 2) (2 * (p % 2) + 1)⟩]
    concatenates_S256x128_S256x128_S256x256_d1

section Logits

variable (rK : ℕ → IVec S64x128 32) (rQ : ℕ → Vec F S1x64x256 .bf16) (rC : ℕ → Vec F S64x128 .f32)

/-- The dot products of pair `p`'s queries with a chunk's key codes. -/
def raw (p chunk : ℕ) : FVec F S64x256 .f32 :=
  matmul dot_S64x256_S256x256_S64x256_1_1_0_0_n_n none (shapeCast S64x256 (rQ p) shapeCasts_S1x64x256_S64x256 : FVec F S64x256 .bf16)
    (tiles rK chunk p : FVec F S256x256 .fp8e4m3) (constant S64x256 .f32 0x00000000#32)

/-- The logits of a chunk's first 128 positions. -/
def t0 (p chunk : ℕ) : FVec F S64x128 .f32 :=
  mulf (extractStridedSlice S64x128 ![0, 0] (raw rK rQ p chunk) slices_S64x256_o0_0_S64x128) (rC p)

/-- The logits of a chunk's last 128 positions. -/
def t1 (p chunk : ℕ) : FVec F S64x128 .f32 :=
  mulf (extractStridedSlice S64x128 ![0, 128] (raw rK rQ p chunk) slices_S64x256_o0_128_S64x128) (rC p)

/-- The greatest logit per lane over the chunks up to `n`. -/
def laneMax (p : ℕ) : ℕ → FVec F S64x128 .f32
  | 0 => maximumf (t0 rK rQ rC p 0) (t1 rK rQ rC p 0)
  | n + 1 => maximumf (laneMax p n) (maximumf (t0 rK rQ rC p (n + 1)) (t1 rK rQ rC p (n + 1)))

/-- The greatest logit of each row of the block, in every lane. -/
def blockMax : FVec F S256x128 .f32 :=
  broadcastTo S256x128 (shapeCast S256x1 (shapeCast S256x1 (multiReduction .maximumf [1] S256
    (concatenate S256x128 0 [⟨S64x128, laneMax rK rQ rC 0 7⟩, ⟨S64x128, laneMax rK rQ rC 1 7⟩, ⟨S64x128, laneMax rK rQ rC 2 7⟩,
      ⟨S64x128, laneMax rK rQ rC 3 7⟩] concatenates_S64x128_S64x128_S64x128_S64x128_S256x128_d0 : FVec F S256x128 .f32) 0xFF800000#32 reduces_S256x128_S256 (.inl rfl) rfl)
    shapeCasts_S256_S256x1 : FVec F S256x1 .f32) shapeCasts_S256x1_S256x1 : FVec F S256x1 .f32) broadcasts_S256x1_S256x128

/-- The running maximum after the block. -/
def mNew (m : Vec F S256x128 .f32) : FVec F S256x128 .f32 := maximumf m (blockMax rK rQ rC)

/-- What the block's logits leave in the logit scratch, newest store first, over the chunks below `n`. -/
def pieces : ℕ → List (View.Piece (Elt F) S256x2048 .f32)
  | 0 => []
  | n + 1 =>
    if h : n < 8 then
      [⟨Rect.unit ![192, 256 * n + 128] S64x128.size (by intro a; fin_cases a <;> simp <;> omega), shapeCast S64x128 (t1 rK rQ rC 3 n) shapeCasts_S64x128_S64x128⟩,
       ⟨Rect.unit ![192, 256 * n] S64x128.size (by intro a; fin_cases a <;> simp <;> omega), shapeCast S64x128 (t0 rK rQ rC 3 n) shapeCasts_S64x128_S64x128⟩,
       ⟨Rect.unit ![128, 256 * n + 128] S64x128.size (by intro a; fin_cases a <;> simp <;> omega), shapeCast S64x128 (t1 rK rQ rC 2 n) shapeCasts_S64x128_S64x128⟩,
       ⟨Rect.unit ![128, 256 * n] S64x128.size (by intro a; fin_cases a <;> simp <;> omega), shapeCast S64x128 (t0 rK rQ rC 2 n) shapeCasts_S64x128_S64x128⟩,
       ⟨Rect.unit ![64, 256 * n + 128] S64x128.size (by intro a; fin_cases a <;> simp <;> omega), shapeCast S64x128 (t1 rK rQ rC 1 n) shapeCasts_S64x128_S64x128⟩,
       ⟨Rect.unit ![64, 256 * n] S64x128.size (by intro a; fin_cases a <;> simp <;> omega), shapeCast S64x128 (t0 rK rQ rC 1 n) shapeCasts_S64x128_S64x128⟩,
       ⟨Rect.unit ![0, 256 * n + 128] S64x128.size (by intro a; fin_cases a <;> simp <;> omega), shapeCast S64x128 (t1 rK rQ rC 0 n) shapeCasts_S64x128_S64x128⟩,
       ⟨Rect.unit ![0, 256 * n] S64x128.size (by intro a; fin_cases a <;> simp <;> omega), shapeCast S64x128 (t0 rK rQ rC 0 n) shapeCasts_S64x128_S64x128⟩] ++ pieces n
    else []

end Logits

section Sums

variable (rV : ℕ → IVec S64x128 32) (rS : ℕ → ℕ → Vec F S64x128 .f32) (mn : FVec F S256x128 .f32)

/-- Pair `p`'s rows of the running maximum. -/
def mRows (p : ℕ) : FVec F S64x128 .f32 :=
  pick4 p (extractStridedSlice S64x128 ![0, 0] mn slices_S256x128_o0_0_S64x128)
    (extractStridedSlice S64x128 ![64, 0] mn slices_S256x128_o64_0_S64x128)
    (extractStridedSlice S64x128 ![128, 0] mn slices_S256x128_o128_0_S64x128)
    (extractStridedSlice S64x128 ![192, 0] mn slices_S256x128_o192_0_S64x128)

/-- The exponentials of half `h` of a chunk. -/
def e (p chunk h : ℕ) : FVec F S64x128 .f32 := exp2 (subf (rS p (2 * chunk + h)) (mRows mn p))

/-- The exponentials summed per lane over the chunks up to `n`. -/
def laneSum (p : ℕ) : ℕ → FVec F S64x128 .f32
  | 0 => addf (e rS mn p 0 0) (e rS mn p 0 1)
  | n + 1 => addf (laneSum p n) (addf (e rS mn p (n + 1) 0) (e rS mn p (n + 1) 1))

/-- The exponentials of a chunk times its value codes. -/
def o (p chunk : ℕ) : FVec F S64x256 .f32 :=
  matmul dot_S64x256_S256x256_S64x256_1_0_0_1_n_n none
    (truncf .bf16 (concatenate S64x256 1 [⟨S64x128, e rS mn p chunk 0⟩, ⟨S64x128, e rS mn p chunk 1⟩]
      concatenates_S64x128_S64x128_S64x256_d1 : FVec F S64x256 .f32) bitsLt_bf16_f32)
    (tiles rV chunk p : FVec F S256x256 .fp8e4m3) (constant S64x256 .f32 0x00000000#32)

/-- The same summed over the chunks up to `n`. -/
def out (p : ℕ) : ℕ → FVec F S64x256 .f32
  | 0 => o rV rS mn p 0
  | n + 1 => addf (out p n) (o rV rS mn p (n + 1))

/-- The lane sums after the block, from those before it. -/
def lNew (m l : Vec F S256x128 .f32) : FVec F S256x128 .f32 :=
  shapeCast S256x128 (addf (mulf l (exp2 (subf m mn))) (concatenate S256x128 0 [⟨S64x128, laneSum rS mn 0 7⟩, ⟨S64x128, laneSum rS mn 1 7⟩,
    ⟨S64x128, laneSum rS mn 2 7⟩, ⟨S64x128, laneSum rS mn 3 7⟩] concatenates_S64x128_S64x128_S64x128_S64x128_S256x128_d0) : FVec F S256x128 .f32)
    shapeCasts_S256x128_S256x128

/-- The head's own half of a pair's sums: the first head's. -/
def half0 (p : ℕ) : FVec F S32x128 .f32 := extractStridedSlice S32x128 ![0, 0] (out rV rS mn p 7) slices_S64x256_o0_0_S32x128

/-- The head's own half of a pair's sums: the second head's. -/
def half1 (p : ℕ) : FVec F S32x128 .f32 := extractStridedSlice S32x128 ![32, 128] (out rV rS mn p 7) slices_S64x256_o32_128_S32x128

/-- The weighted sums after the block, from those before it. -/
def accNew (m acc : Vec F S256x128 .f32) : FVec F S256x128 .f32 :=
  shapeCast S256x128 (addf (mulf acc (exp2 (subf m mn))) (concatenate S256x128 0 [⟨S32x128, half0 rV rS mn 0⟩, ⟨S32x128, half1 rV rS mn 0⟩,
    ⟨S32x128, half0 rV rS mn 1⟩, ⟨S32x128, half1 rV rS mn 1⟩, ⟨S32x128, half0 rV rS mn 2⟩, ⟨S32x128, half1 rV rS mn 2⟩,
    ⟨S32x128, half0 rV rS mn 3⟩, ⟨S32x128, half1 rV rS mn 3⟩]
    concatenates_S32x128_S32x128_S32x128_S32x128_S32x128_S32x128_S32x128_S32x128_S256x128_d0) : FVec F S256x128 .f32)
    shapeCasts_S256x128_S256x128

end Sums

section Reads

variable {κ : Kind} {sp : Space}

/-- The 64 words of every second row from row `n` on, after the stores `L`. -/
def rdW (v : View sig κ sp S4096x128 .i32) (L : List (View.Piece (Elt F) S4096x128 .i32)) (n : ℕ) : IVec S64x128 32 :=
  if h : n + 127 ≤ 4096 then
    v.readCov L (⟨![n, 0], S64x128.size, ![2, 1], by intro a; fin_cases a <;> simp <;> omega⟩ : LoadRect S4096x128)
  else fun _ => 0#32

/-- The logits of pair `p` at the `k`-th 128 positions, after the stores `L`. -/
def rdS (v : View sig κ sp S256x2048 .f32) (L : List (View.Piece (Elt F) S256x2048 .f32)) (p k : ℕ) : Vec F S64x128 .f32 :=
  if h : p < 4 ∧ k < 16 then
    v.readCov L (Rect.unit (s := S256x2048) ![64 * p, 128 * k] S64x128.size (by intro a; fin_cases a <;> simp <;> omega)).toLoadRect
  else constant S64x128 .f32 0x00000000#32

/-- Pair `p`'s queries in a buffer. -/
def rdQ (v : View sig κ sp S4x64x256 .bf16) (f : v.ty.Contents (Elt F)) (p : ℕ) : Vec F S1x64x256 .bf16 :=
  if h : p < 4 then v.readAt (Elt F) (Rect.unit (s := S4x64x256) ![p, 0, 0] S1x64x256.size (by intro a; fin_cases a <;> simp <;> omega)).toLoadRect f
  else constant S1x64x256 .bf16 0#16

/-- Pair `p`'s rows of a buffer. -/
def rdC (v : View sig κ sp S256x128 .f32) (f : v.ty.Contents (Elt F)) (p : ℕ) : Vec F S64x128 .f32 :=
  if h : p < 4 then v.readAt (Elt F) (Rect.unit (s := S256x128) ![64 * p, 0] S64x128.size (by intro a; fin_cases a <;> simp <;> omega)).toLoadRect f
  else constant S64x128 .f32 0x00000000#32

/-- The store of a whole array of words. -/
def wordsPiece (w : IVec S4096x128 32) : List (View.Piece (Elt F) S4096x128 .i32) :=
  [⟨Rect.unit ![0, 0] S4096x128.size inb_S4096x128_S4096x128_0_0, w⟩]

end Reads

end Cert.KernelIdeal.Step

end
-- ==== Proof.Val.New.lean ====
/- What the body does with the new tokens at the first grid point, and how it turns the sums into results at the last
   one, as functions of what it loads. -/
module

public import proofs.«01_k».proof.Proof.Val.Step

@[expose] public section

noncomputable section

namespace Cert.KernelIdeal.Step

open Cert.KernelIdeal Cert.KernelIdeal.Gen Idealize.ShloMosaic Idealize.SL.Sem

variable {F : FTy → Type} [FloatOps F] [Named F]

section Reads

variable {κ : Kind} {sp : Space}

/-- Entry `n` of a buffer of eight scales. -/
def rdN (v : View sig κ sp S8 .f32) (f : v.ty.Contents (Elt F)) (n : ℕ) : Elt F .f32 :=
  if h : n < 8 then
    v.readAt (Elt F) (Rect.unit (s := S8) ![n] S1.size (by intro a; fin_cases a; simp; omega)).toLoadRect f (Shape.Idx.first (s := S1) (by decide))
  else Scalar.ofBits .f32 0x00000000#32

/-- Query head `n` of the four new tokens. -/
def rdX (v : View sig κ sp S4x8192 .bf16) (f : v.ty.Contents (Elt F)) (n : ℕ) : Vec F S4x128 .bf16 :=
  if h : n < 64 then
    v.readAt (Elt F) (Rect.unit (s := S4x8192) ![0, 128 * n] S4x128.size (by intro a; fin_cases a <;> simp; omega)).toLoadRect f
  else constant S4x128 .bf16 0#16

/-- The queries stored one head after another, newest store first, over the heads below `n`. -/
def qPieces (rX : ℕ → Vec F S4x128 .bf16) : ℕ → List (View.Piece (Elt F) S256x128 .f32)
  | 0 => []
  | n + 1 =>
    if h : n < 64 then
      ⟨Rect.unit ![4 * n, 0] S4x128.size (by intro a; fin_cases a <;> simp; omega),
        shapeCast S4x128 (extf .f32 (shapeCast S4x128 (rX n) shapeCasts_S4x128_S4x128 : FVec F S4x128 .bf16) bitsLt_bf16_f32 : FVec F S4x128 .f32) shapeCasts_S4x128_S4x128⟩ :: qPieces rX n
    else []

/-- The queries as read back from the query scratch. -/
def queries (v : View sig κ sp S256x128 .f32) (rX : ℕ → Vec F S4x128 .bf16) : FVec F S256x128 .bf16 :=
  truncf .bf16 (v.readCov (qPieces rX 64) (Rect.unit ![0, 0] S256x128.size inb_S256x128_S256x128_0_0).toLoadRect : FVec F S256x128 .f32) bitsLt_bf16_f32

end Reads

/-- The stores that lay the queries out in pairs of heads, newest first. -/
def qbdPieces (q : FVec F S256x128 .bf16) : List (View.Piece (Elt F) S4x64x256 .bf16) :=
  [⟨Rect.unit ![3, 32, 128] S1x32x128.size inb_S4x64x256_S1x32x128_3_32_128, shapeCast S1x32x128 (extractStridedSlice S32x128 ![224, 0] q slices_S256x128_o224_0_S32x128) shapeCasts_S32x128_S1x32x128⟩,
   ⟨Rect.unit ![3, 0, 0] S1x32x128.size inb_S4x64x256_S1x32x128_3_0_0, shapeCast S1x32x128 (extractStridedSlice S32x128 ![192, 0] q slices_S256x128_o192_0_S32x128) shapeCasts_S32x128_S1x32x128⟩,
   ⟨Rect.unit ![2, 32, 128] S1x32x128.size inb_S4x64x256_S1x32x128_2_32_128, shapeCast S1x32x128 (extractStridedSlice S32x128 ![160, 0] q slices_S256x128_o160_0_S32x128) shapeCasts_S32x128_S1x32x128⟩,
   ⟨Rect.unit ![2, 0, 0] S1x32x128.size inb_S4x64x256_S1x32x128_2_0_0, shapeCast S1x32x128 (extractStridedSlice S32x128 ![128, 0] q slices_S256x128_o128_0_S32x128) shapeCasts_S32x128_S1x32x128⟩,
   ⟨Rect.unit ![1, 32, 128] S1x32x128.size inb_S4x64x256_S1x32x128_1_32_128, shapeCast S1x32x128 (extractStridedSlice S32x128 ![96, 0] q slices_S256x128_o96_0_S32x128) shapeCasts_S32x128_S1x32x128⟩,
   ⟨Rect.unit ![1, 0, 0] S1x32x128.size inb_S4x64x256_S1x32x128_1_0_0, shapeCast S1x32x128 (extractStridedSlice S32x128 ![64, 0] q slices_S256x128_o64_0_S32x128) shapeCasts_S32x128_S1x32x128⟩,
   ⟨Rect.unit ![0, 32, 128] S1x32x128.size inb_S4x64x256_S1x32x128_0_32_128, shapeCast S1x32x128 (extractStridedSlice S32x128 ![32, 0] q slices_S256x128_o32_0_S32x128) shapeCasts_S32x128_S1x32x128⟩,
   ⟨Rect.unit ![0, 0, 0] S1x32x128.size inb_S4x64x256_S1x32x128_0_0_0, shapeCast S1x32x128 (extractStridedSlice S32x128 ![0, 0] q slices_S256x128_o0_0_S32x128) shapeCasts_S32x128_S1x32x128⟩,
   ⟨Rect.unit ![0, 0, 0] S4x64x256.size inb_S4x64x256_S4x64x256_0_0_0, shapeCast S4x64x256 (broadcast S4x64x256 (Scalar.ofBits .bf16 0x0000#16 : F .bf16)) shapeCasts_S4x64x256_S4x64x256⟩]

section Values

variable (sc : ℕ → Elt F .f32)

/-- The factor of each row's logits: the head's key scale times the softmax scale. -/
def factors : FVec F S256x128 .f32 := k0_pay86 (sc 0) (sc 1) (sc 2) (sc 3) (sc 4) (sc 5) (sc 6) (sc 7)

/-- The new keys' codes. -/
def kCodes (kn : Vec F S32x128 .bf16) : FVec F S32x128 .fp8e4m3 :=
  k0_pay92 (k0_pay88 k0_pay87 (sc 0) (sc 1) (sc 2) (sc 3) (sc 4) (sc 5) (sc 6) (sc 7)) kn

/-- The new values' codes. -/
def vCodes (vn : Vec F S32x128 .bf16) : FVec F S32x128 .fp8e4m3 :=
  k0_pay93 (k0_pay89 (iota .tc S32x128 32 [0] iota_S32x128_d0_w32) 8#32)
    (k0_pay90 (iota .tc S32x128 32 [0] iota_S32x128_d0_w32) 8#32 (sc 0) (sc 1) (sc 2) (sc 3) (sc 4)) k0_pay91 (sc 5) (sc 6) (sc 7) vn

/-- A column's token among the new ones. -/
def colTok : IVec S256x32 32 :=
  select (andi (cmpi .ne (subi (extui 32 (cmpi .sgt (iota .tc S256x32 32 [1] iota_S256x32_d1_w32) (broadcast S256x32 0#32)) natLt_1_32)
        (extui 32 (cmpi .slt (iota .tc S256x32 32 [1] iota_S256x32_d1_w32) (broadcast S256x32 0#32)) natLt_1_32)) (broadcast S256x32 1#32))
      (cmpi .ne (remsi (iota .tc S256x32 32 [1] iota_S256x32_d1_w32) (broadcast S256x32 8#32)) (broadcast S256x32 0#32)))
    (subi (divsi (iota .tc S256x32 32 [1] iota_S256x32_d1_w32) (broadcast S256x32 8#32)) (broadcast S256x32 1#32))
    (divsi (iota .tc S256x32 32 [1] iota_S256x32_d1_w32) (broadcast S256x32 8#32))

/-- A row's token among the new ones. -/
def rowTok : IVec S256x32 32 :=
  select (andi (xori (cmpi .slt (remsi (iota .tc S256x32 32 [0] iota_S256x32_d0_w32) (broadcast S256x32 4#32)) (broadcast S256x32 0#32))
        (broadcastTo S256x32 (broadcast S256x32 0#1) broadcasts_S256x32_S256x32))
      (cmpi .ne (remsi (iota .tc S256x32 32 [0] iota_S256x32_d0_w32) (broadcast S256x32 4#32)) (broadcast S256x32 0#32)))
    (addi (remsi (iota .tc S256x32 32 [0] iota_S256x32_d0_w32) (broadcast S256x32 4#32)) (broadcast S256x32 4#32))
    (remsi (iota .tc S256x32 32 [0] iota_S256x32_d0_w32) (broadcast S256x32 4#32))

/-- The new tokens' logits: a row sees its own head's columns, up to its own token. -/
def newLogits (q : FVec F S256x128 .bf16) (kc : FVec F S32x128 .fp8e4m3) (c : Vec F S256x32 .f32) : FVec F S256x32 .f32 :=
  select (andi (cmpi .eq k0_pay95 k0_pay96) (cmpi .sle colTok rowTok))
    (k0_pay94 q kc (constant S256x32 .f32 0x00000000#32) c) (broadcast S256x32 (Scalar.ofBits .f32 0xFF800000#32 : F .f32))

/-- The final rows: the weighted sums times the value scales, divided by the total of the lane sums. -/
def finish (l acc : Vec F S256x128 .f32) : FVec F S256x128 .f32 :=
  k0_pay98 l acc (sc 0) (sc 1) (sc 2) (sc 3) (sc 4) (sc 5) (sc 6) (sc 7)

end Values

section Out

variable {κ : Kind} {sp : Space}

/-- The stores of the output, one query head after another, newest first, over the heads below `n`. -/
def yPieces (v : View sig κ sp S256x128 .f32) (L : List (View.Piece (Elt F) S256x128 .f32)) : ℕ → List (View.Piece (Elt F) S4x8192 .bf16)
  | 0 => []
  | n + 1 =>
    if h : n < 64 then
      ⟨Rect.unit ![0, 128 * n] S4x128.size (by intro a; fin_cases a <;> simp; omega),
        truncf .bf16 (v.readCov L (Rect.unit (s := S256x128) ![4 * n, 0] S4x128.size (by intro a; fin_cases a <;> simp; omega)).toLoadRect : FVec F S4x128 .f32) bitsLt_bf16_f32⟩ :: yPieces v L n
    else []

end Out

end Cert.KernelIdeal.Step

end
-- ==== Proof.Val.BridgeA.lean ====
/- The stores of the first grid point, read as the step's own arithmetic (`Step`). -/
module

public import proofs.«01_k».proof.Proof.Run.RunA
public import proofs.«01_k».proof.Proof.Val.New

@[expose] public section

set_option maxRecDepth 100000
set_option maxHeartbeats 4000000

noncomputable section

namespace Cert.KernelIdeal.Gen

open Idealize.ShloMosaic Idealize.ShloMosaic.TcCoe Idealize.SL.Sem

variable {F : FTy → Type} [FloatOps F] [Named F]

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8)

/-- The stores of the queries in pairs of heads. -/
theorem qA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.1 = (Step.qbdPieces (Step.queries arg11.view (Step.rdX arg3.view (harg3.unread x2)))) := by
  unfold kernelRun0_A
  dsimp only
  rfl

/-- The store of the logit factors. -/
theorem cA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.1 = [⟨Rect.unit ![0, 0] S256x128.size inb_S256x128_S256x128_0_0, Step.factors (Step.rdN arg1.view (harg1.unread x0))⟩] := by
  unfold kernelRun0_A
  dsimp only
  rfl

/-- The store of the new keys' codes. -/
theorem kcA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1 = [⟨Rect.unit ![0, 0] S32x128.size inb_S32x128_S32x128_0_0, (Step.kCodes (Step.rdN arg1.view (harg1.unread x0)) (View.readAt (Elt F) arg4.view (Rect.unit ![0, 0] S32x128.size inb_S32x128_S32x128_0_0).toLoadRect (harg4.unread x3)))⟩] := by
  unfold kernelRun0_A
  dsimp only
  rfl

/-- The store of the new values' codes. -/
theorem vcA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1 = [⟨Rect.unit ![0, 0] S32x128.size inb_S32x128_S32x128_0_0, (Step.vCodes (Step.rdN arg2.view (harg2.unread x1)) (View.readAt (Elt F) arg5.view (Rect.unit ![0, 0] S32x128.size inb_S32x128_S32x128_0_0).toLoadRect (harg5.unread x4)))⟩] := by
  unfold kernelRun0_A
  dsimp only
  rfl

/-- The stores of the logits. -/
theorem sA : (kernelRun0_A.sl.HS3_64 c arg1 harg1 arg3 harg3 arg6 harg6 arg11 arg12 arg13 arg18 x0 x2 x5) = (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) 8) := by
  rfl

/-- The running maximum. -/
theorem nA : (kernelRun0_A.sl.v1457 c arg1 harg1 arg3 harg3 arg4 harg4 arg6 harg6 arg11 arg12 arg13 arg15 arg18 x0 x2 x3 x5) = (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)) := by
  rfl

/-- The first store of the running maximum. -/
theorem i4A : (kernelRun0_A.sl.HS4_1 c arg1 harg1 arg3 harg3 arg4 harg4 arg11 arg13 x0 x2 x3) = [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rfl

/-- The first store of the lane sums. -/
theorem i5A : (kernelRun0_A.sl.HS5_1 c arg1 harg1 arg3 harg3 arg4 harg4 arg11 arg13 x0 x2 x3) = [⟨Rect.unit ![0, 0] S256x128.size inb_S256x128_S256x128_0_0, k0_pay164 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rfl

/-- The first store of the weighted sums. -/
theorem i6A : (kernelRun0_A.sl.HS6_1 c arg1 harg1 arg2 harg2 arg3 harg3 arg4 harg4 arg5 harg5 arg11 arg13 x0 x1 x2 x3 x4) = [⟨Rect.unit ![0, 0] S256x128.size inb_S256x128_S256x128_0_0, k0_pay165 (Step.vCodes (Step.rdN arg2.view (harg2.unread x1)) (View.readAt (Elt F) arg5.view (Rect.unit ![0, 0] S32x128.size inb_S32x128_S32x128_0_0).toLoadRect (harg5.unread x4))) (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rfl

/-- The store of the running maximum, over the arrays named before. -/
theorem m0A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1 = ⟨Rect.unit ![0, 0] S256x128.size inb_S256x128_S256x128_0_0, shapeCast S256x128 (kernelRun0_A.sl.v1457 c arg1 harg1 arg3 harg3 arg4 harg4 arg6 harg6 arg11 arg12 arg13 arg15 arg18 x0 x2 x3 x5) shapeCasts_S256x128_S256x128⟩ :: (kernelRun0_A.sl.HS4_1 c arg1 harg1 arg3 harg3 arg4 harg4 arg11 arg13 x0 x2 x3) := by
  unfold kernelRun0_A
  dsimp only
  rfl

/-- The store of the lane sums, over the arrays named before. -/
theorem l0A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1 = ⟨Rect.unit ![0, 0] S256x128.size inb_S256x128_S256x128_0_0, Step.lNew (Step.rdS arg14.view (kernelRun0_A.sl.HS3_64 c arg1 harg1 arg3 harg3 arg6 harg6 arg11 arg12 arg13 arg18 x0 x2 x5)) (kernelRun0_A.sl.v1457 c arg1 harg1 arg3 harg3 arg4 harg4 arg6 harg6 arg11 arg12 arg13 arg15 arg18 x0 x2 x3 x5) (arg15.view.readCov (kernelRun0_A.sl.HS4_1 c arg1 harg1 arg3 harg3 arg4 harg4 arg11 arg13 x0 x2 x3) (Rect.unit ![0, 0] S256x128.size inb_S256x128_S256x128_0_0).toLoadRect) (arg16.view.readCov (kernelRun0_A.sl.HS5_1 c arg1 harg1 arg3 harg3 arg4 harg4 arg11 arg13 x0 x2 x3) (Rect.unit ![0, 0] S256x128.size inb_S256x128_S256x128_0_0).toLoadRect)⟩ :: (kernelRun0_A.sl.HS5_1 c arg1 harg1 arg3 harg3 arg4 harg4 arg11 arg13 x0 x2 x3) := by
  unfold kernelRun0_A
  dsimp only
  rfl

/-- The store of the weighted sums, over the arrays named before. -/
theorem a0A : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1 = ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (kernelRun0_A.sl.HS3_64 c arg1 harg1 arg3 harg3 arg6 harg6 arg11 arg12 arg13 arg18 x0 x2 x5)) (kernelRun0_A.sl.v1457 c arg1 harg1 arg3 harg3 arg4 harg4 arg6 harg6 arg11 arg12 arg13 arg15 arg18 x0 x2 x3 x5) (arg15.view.readCov (kernelRun0_A.sl.HS4_1 c arg1 harg1 arg3 harg3 arg4 harg4 arg11 arg13 x0 x2 x3) (Rect.unit ![0, 0] S256x128.size inb_S256x128_S256x128_0_0).toLoadRect) (arg17.view.readCov (kernelRun0_A.sl.HS6_1 c arg1 harg1 arg2 harg2 arg3 harg3 arg4 harg4 arg5 harg5 arg11 arg13 x0 x1 x2 x3 x4) (Rect.unit ![0, 0] S256x128.size inb_S256x128_S256x128_0_0).toLoadRect)⟩ :: (kernelRun0_A.sl.HS6_1 c arg1 harg1 arg2 harg2 arg3 harg3 arg4 harg4 arg5 harg5 arg11 arg13 x0 x1 x2 x3 x4) := by
  unfold kernelRun0_A
  dsimp only
  rfl

/-- The store of the running maximum. -/
theorem mA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.1 =
    ⟨Rect.unit ![0, 0] S256x128.size inb_S256x128_S256x128_0_0, shapeCast S256x128 (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)) shapeCasts_S256x128_S256x128⟩ :: [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rw [m0A, nA, i4A]

/-- The store of the lane sums. -/
theorem lA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.1 =
    ⟨Rect.unit ![0, 0] S256x128.size inb_S256x128_S256x128_0_0, Step.lNew (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect) (arg16.view.readCov [⟨Rect.unit ![0, 0] S256x128.size inb_S256x128_S256x128_0_0, k0_pay164 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)⟩ :: [⟨Rect.unit ![0, 0] S256x128.size inb_S256x128_S256x128_0_0, k0_pay164 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rw [l0A, sA, nA, i4A, i5A]

/-- The store of the weighted sums. -/
theorem aA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.2.2.2.2.2.1 =
    ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (arg12.view.writes (Elt F) arg12.view.junk (Step.qbdPieces (Step.queries arg11.view (Step.rdX arg3.view (harg3.unread x2)))))) (Step.rdC arg13.view (arg13.view.writes (Elt F) arg13.view.junk [⟨Rect.unit ![0, 0] S256x128.size inb_S256x128_S256x128_0_0, Step.factors (Step.rdN arg1.view (harg1.unread x0))⟩])) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)) (arg15.view.readCov [⟨Rect.unit ![0, 0] S256x128.size inb_S256x128_S256x128_0_0, k0_pay163 (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect) (arg17.view.readCov [⟨Rect.unit ![0, 0] S256x128.size inb_S256x128_S256x128_0_0, k0_pay165 (Step.vCodes (Step.rdN arg2.view (harg2.unread x1)) (View.readAt (Elt F) arg5.view (Rect.unit ![0, 0] S32x128.size inb_S32x128_S32x128_0_0).toLoadRect (harg5.unread x4))) (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] (Rect.unit ![0, 0] S256x128.size inb_S256x128_S256x128_0_0).toLoadRect)⟩ :: [⟨Rect.unit ![0, 0] S256x128.size inb_S256x128_S256x128_0_0, k0_pay165 (Step.vCodes (Step.rdN arg2.view (harg2.unread x1)) (View.readAt (Elt F) arg5.view (Rect.unit ![0, 0] S32x128.size inb_S32x128_S32x128_0_0).toLoadRect (harg5.unread x4))) (Step.newLogits (Step.queries arg11.view (Step.rdX arg3.view (harg3.unread x2))) (Step.kCodes (Step.rdN arg1.view (harg1.unread x0)) (View.readAt (Elt F) arg4.view (Rect.unit ![0, 0] S32x128.size inb_S32x128_S32x128_0_0).toLoadRect (harg4.unread x3))) (arg13.view.readCov [⟨Rect.unit ![0, 0] S256x128.size inb_S256x128_S256x128_0_0, Step.factors (Step.rdN arg1.view (harg1.unread x0))⟩] (Rect.unit (s := S256x128) ![0, 0] S256x32.size inb_S256x128_S256x32_0_0).toLoadRect))⟩] := by
  rw [a0A, sA, nA, i4A, i6A]

end Cert.KernelIdeal.Gen

end
-- ==== Proof.Val.BridgeB.lean ====
/- The stores of a middle grid point, read as the step's own arithmetic (`Step`). -/
module

public import proofs.«01_k».proof.Proof.Run.RunB
public import proofs.«01_k».proof.Proof.Val.New

@[expose] public section

set_option maxRecDepth 100000
set_option maxHeartbeats 4000000

noncomputable section

namespace Cert.KernelIdeal.Gen

open Idealize.ShloMosaic Idealize.ShloMosaic.TcCoe Idealize.SL.Sem

variable {F : FTy → Type} [FloatOps F] [Named F]

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xs1 : Vec F S4x64x256 .bf16) (xs2 : Vec F S256x128 .f32) (xs4 : Vec F S256x128 .f32) (xs5 : Vec F S256x128 .f32) (xs6 : Vec F S256x128 .f32)

/-- The stores of the logits. -/
theorem sB : (kernelRun0_B.sl.HS3_64 c arg6 harg6 arg12 harg12 arg13 harg13 arg18 x5 xs1 xs2) = (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8) := by
  rfl

/-- The running maximum. -/
theorem nB : (kernelRun0_B.sl.v1457 c arg6 harg6 arg12 harg12 arg13 harg13 arg15 harg15 arg18 x5 xs1 xs2 xs4) = (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) := by
  rfl

/-- The store of the running maximum, over the arrays named before. -/
theorem m0B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.1 = ⟨Rect.unit ![0, 0] S256x128.size inb_S256x128_S256x128_0_0, shapeCast S256x128 (kernelRun0_B.sl.v1457 c arg6 harg6 arg12 harg12 arg13 harg13 arg15 harg15 arg18 x5 xs1 xs2 xs4) shapeCasts_S256x128_S256x128⟩ :: [] := by
  unfold kernelRun0_B
  dsimp only
  rfl

/-- The store of the lane sums, over the arrays named before. -/
theorem l0B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.1 = ⟨Rect.unit ![0, 0] S256x128.size inb_S256x128_S256x128_0_0, Step.lNew (Step.rdS arg14.view (kernelRun0_B.sl.HS3_64 c arg6 harg6 arg12 harg12 arg13 harg13 arg18 x5 xs1 xs2)) (kernelRun0_B.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩ :: [] := by
  unfold kernelRun0_B
  dsimp only
  rfl

/-- The store of the weighted sums, over the arrays named before. -/
theorem a0B : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.2.1 = ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (kernelRun0_B.sl.HS3_64 c arg6 harg6 arg12 harg12 arg13 harg13 arg18 x5 xs1 xs2)) (kernelRun0_B.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩ :: [] := by
  unfold kernelRun0_B
  dsimp only
  rfl

/-- The store of the running maximum. -/
theorem mB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.1 =
    ⟨Rect.unit ![0, 0] S256x128.size inb_S256x128_S256x128_0_0, shapeCast S256x128 (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) shapeCasts_S256x128_S256x128⟩ :: [] := by
  rw [m0B, nB]

/-- The store of the lane sums. -/
theorem lB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.1 =
    ⟨Rect.unit ![0, 0] S256x128.size inb_S256x128_S256x128_0_0, Step.lNew (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩ :: [] := by
  rw [l0B, sB, nB]

/-- The store of the weighted sums. -/
theorem aB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6).2.2.2.2.2.2.2.1 =
    ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩ :: [] := by
  rw [a0B, sB, nB]

end Cert.KernelIdeal.Gen

end
-- ==== Proof.Val.BridgeC.lean ====
/- The stores of the last grid point, read as the step's own arithmetic (`Step`). -/
module

public import proofs.«01_k».proof.Proof.Run.RunC
public import proofs.«01_k».proof.Proof.Val.New

@[expose] public section

set_option maxRecDepth 100000
set_option maxHeartbeats 4000000

noncomputable section

namespace Cert.KernelIdeal.Gen

open Idealize.ShloMosaic Idealize.ShloMosaic.TcCoe Idealize.SL.Sem

variable {F : FTy → Type} [FloatOps F] [Named F]

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec F S8 .f32) (x1 : Vec F S8 .f32) (x2 : Vec F S4x8192 .bf16) (x3 : Vec F S32x128 .bf16) (x4 : Vec F S32x128 .bf16) (x5 : Vec F S16384x128 .i8) (x6 : Vec F S16384x128 .i8) (xo8 : Vec F S32x128 .fp8e4m3) (xo9 : Vec F S32x128 .fp8e4m3) (xs1 : Vec F S4x64x256 .bf16) (xs2 : Vec F S256x128 .f32) (xs4 : Vec F S256x128 .f32) (xs5 : Vec F S256x128 .f32) (xs6 : Vec F S256x128 .f32)

/-- The stores of the logits. -/
theorem sC : (kernelRun0_C.sl.HS3_64 c arg6 harg6 arg12 harg12 arg13 harg13 arg18 x5 xs1 xs2) = (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8) := by
  rfl

/-- The running maximum. -/
theorem nC : (kernelRun0_C.sl.v1457 c arg6 harg6 arg12 harg12 arg13 harg13 arg15 harg15 arg18 x5 xs1 xs2 xs4) = (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) := by
  rfl

/-- The store of the running maximum, over the arrays named before. -/
theorem m0C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.1 = ⟨Rect.unit ![0, 0] S256x128.size inb_S256x128_S256x128_0_0, shapeCast S256x128 (kernelRun0_C.sl.v1457 c arg6 harg6 arg12 harg12 arg13 harg13 arg15 harg15 arg18 x5 xs1 xs2 xs4) shapeCasts_S256x128_S256x128⟩ :: [] := by
  unfold kernelRun0_C
  dsimp only
  rfl

/-- The store of the lane sums, over the arrays named before. -/
theorem l0C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.1 = ⟨Rect.unit ![0, 0] S256x128.size inb_S256x128_S256x128_0_0, Step.lNew (Step.rdS arg14.view (kernelRun0_C.sl.HS3_64 c arg6 harg6 arg12 harg12 arg13 harg13 arg18 x5 xs1 xs2)) (kernelRun0_C.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩ :: [] := by
  unfold kernelRun0_C
  dsimp only
  rfl

/-- The store of the weighted sums, over the arrays named before. -/
theorem a0C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.2.1 = ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (kernelRun0_C.sl.HS3_64 c arg6 harg6 arg12 harg12 arg13 harg13 arg18 x5 xs1 xs2)) (kernelRun0_C.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩ :: [] := by
  unfold kernelRun0_C
  dsimp only
  rfl

/-- The store of the running maximum. -/
theorem mC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.1 =
    ⟨Rect.unit ![0, 0] S256x128.size inb_S256x128_S256x128_0_0, shapeCast S256x128 (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) shapeCasts_S256x128_S256x128⟩ :: [] := by
  rw [m0C, nC]

/-- The store of the lane sums. -/
theorem lC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.1 =
    ⟨Rect.unit ![0, 0] S256x128.size inb_S256x128_S256x128_0_0, Step.lNew (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩ :: [] := by
  rw [l0C, sC, nC]

/-- The store of the weighted sums. -/
theorem aC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).2.2.2.2.2.2.2.1 =
    ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩ :: [] := by
  rw [a0C, sC, nC]

/-- The lane sums' store has a name. -/
theorem l1C : (kernelRun0_C.sl.HS5_1 c arg6 harg6 arg12 harg12 arg13 harg13 arg14 arg15 harg15 arg16 harg16 arg18 x5 xs1 xs2 xs4 xs5) = ⟨Rect.unit ![0, 0] S256x128.size inb_S256x128_S256x128_0_0, Step.lNew (Step.rdS arg14.view (kernelRun0_C.sl.HS3_64 c arg6 harg6 arg12 harg12 arg13 harg13 arg18 x5 xs1 xs2)) (kernelRun0_C.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩ :: [] := by
  rfl

/-- The weighted sums' store has a name. -/
theorem a1C : (kernelRun0_C.sl.HS6_1 c arg6 harg6 arg7 harg7 arg12 harg12 arg13 harg13 arg14 arg15 harg15 arg17 harg17 arg18 arg19 x5 x6 xs1 xs2 xs4 xs6) = ⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (kernelRun0_C.sl.HS3_64 c arg6 harg6 arg12 harg12 arg13 harg13 arg18 x5 xs1 xs2)) (kernelRun0_C.sl.v1457 c arg6 harg6 arg12 harg12 arg13 harg13 arg15 harg15 arg18 x5 xs1 xs2 xs4) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩ :: [] := by
  rfl

/-- The store of the final rows, over the arrays named before. -/
theorem f0C : (kernelRun0_C.sl.HS0_1 c arg2 harg2 arg6 harg6 arg7 harg7 arg12 harg12 arg13 harg13 arg14 arg15 harg15 arg16 harg16 arg17 harg17 arg18 arg19 x1 x5 x6 xs1 xs2 xs4 xs5 xs6) = [⟨Rect.unit ![0, 0] S256x128.size inb_S256x128_S256x128_0_0, Step.finish (Step.rdN arg2.view (harg2.unread x1)) (arg16.view.readCov (kernelRun0_C.sl.HS5_1 c arg6 harg6 arg12 harg12 arg13 harg13 arg14 arg15 harg15 arg16 harg16 arg18 x5 xs1 xs2 xs4 xs5) (Rect.unit ![0, 0] S256x128.size inb_S256x128_S256x128_0_0).toLoadRect) (arg17.view.readCov (kernelRun0_C.sl.HS6_1 c arg6 harg6 arg7 harg7 arg12 harg12 arg13 harg13 arg14 arg15 harg15 arg17 harg17 arg18 arg19 x5 x6 xs1 xs2 xs4 xs6) (Rect.unit ![0, 0] S256x128.size inb_S256x128_S256x128_0_0).toLoadRect)⟩] := by
  rfl

/-- The stores of the output, over the arrays named before. -/
theorem y0C : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).1 = Step.yPieces arg11.view (kernelRun0_C.sl.HS0_1 c arg2 harg2 arg6 harg6 arg7 harg7 arg12 harg12 arg13 harg13 arg14 arg15 harg15 arg16 harg16 arg17 harg17 arg18 arg19 x1 x5 x6 xs1 xs2 xs4 xs5 xs6) 64 := by
  unfold kernelRun0_C
  dsimp only
  rfl

/-- The stores of the output. -/
theorem yC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6).1 =
    Step.yPieces arg11.view [⟨Rect.unit ![0, 0] S256x128.size inb_S256x128_S256x128_0_0, Step.finish (Step.rdN arg2.view (harg2.unread x1)) (arg16.view.readCov [⟨Rect.unit ![0, 0] S256x128.size inb_S256x128_S256x128_0_0, Step.lNew (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg16.view (Rect.unit ![0, 0] S256x128.size inb_S256x128_S256x128_0_0).toLoadRect (harg16.unread xs5))⟩] (Rect.unit ![0, 0] S256x128.size inb_S256x128_S256x128_0_0).toLoadRect) (arg17.view.readCov [⟨Rect.unit ![0, 0] S256x128.size inb_S256x128_S256x128_0_0, Step.accNew (Step.rdW (F := F) arg19.view (Step.wordsPiece (F := F) (k0_pay167 (F := F) (View.readAt (Elt F) arg7.view (Rect.unit ![0, 0] S16384x128.size inb_S16384x128_S16384x128_0_0).toLoadRect (harg7.unread x6))))) (Step.rdS arg14.view (Step.pieces (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) 8)) (Step.mNew (F := F) (Step.rdW (F := F) arg18.view (Step.wordsPiece (F := F) (k0_pay166 (F := F) (View.readAt (Elt F) arg6.view (Rect.unit ![0, 0] S16384x128.size inb_S16384x128_S16384x128_0_0).toLoadRect (harg6.unread x5))))) (Step.rdQ arg12.view (harg12.unread xs1)) (Step.rdC arg13.view (harg13.unread xs2)) (View.readAt (Elt F) arg15.view (Rect.unit ![0, 0] S256x128.size inb_S256x128_S256x128_0_0).toLoadRect (harg15.unread xs4))) (View.readAt (Elt F) arg15.view (Rect.unit ![0, 0] S256x128.size inb_S256x128_S256x128_0_0).toLoadRect (harg15.unread xs4)) (View.readAt (Elt F) arg17.view (Rect.unit ![0, 0] S256x128.size inb_S256x128_S256x128_0_0).toLoadRect (harg17.unread xs6))⟩] (Rect.unit ![0, 0] S256x128.size inb_S256x128_S256x128_0_0).toLoadRect)⟩] 64 := by
  rw [y0C, f0C, l1C, a1C, sC, nC]

end Cert.KernelIdeal.Gen

end
-- ==== Proof.Val.Tile.lean ====
/- The codes of a tile: which byte of the cache each of them is. -/
module

public import proofs.«01_k».proof.Proof.Val.New
public import Idealize.ShloMosaic.Lib.Pointwise
public import Idealize.ShloMosaic.Lib.Pointwise.IndexBridge
public import Idealize.ShloMosaic.Lib.BitcastFour
public import Idealize.ShloMosaic.Lib.Pipeline.FrameBody
public import Idealize.ShloMosaic.Lib.Pipeline.ReadBack

@[expose] public section

noncomputable section

namespace Cert.KernelIdeal.Step

open Cert.KernelIdeal Cert.KernelIdeal.Gen Idealize.ShloMosaic Idealize.SL.Sem

variable {F : FTy → Type} [FloatOps F] [Named F]

/-- Two halves side by side, read at a bit. -/
theorem lows_bit (a b : IVec S64x128 32) (i : S64x128.Idx) (n : ℕ) (hn : n < 32) :
    (lows a b i).getLsbD n = if n < 16 then (a i).getLsbD n else (b i).getLsbD (n - 16) := by
  rw [lows, packElementwiseI16_apply, BitVec.getLsbD_append]
  split
  · rw [BitVec.getLsbD_setWidth]; simp; omega
  · rw [BitVec.getLsbD_setWidth]; simp; omega

/-- Two high halves side by side, read at a bit. -/
theorem highs_bit (a b : IVec S64x128 32) (i : S64x128.Idx) (n : ℕ) (hn : n < 32) :
    (highs a b i).getLsbD n = if n < 16 then (a i).getLsbD (n + 16) else (b i).getLsbD n := by
  have hs : ∀ (x : BitVec 32) (k : ℕ), k < 16 → (IntOp.shrsi .vector x 16#32).getLsbD k = x.getLsbD (k + 16) := by
    intro x k hk
    have e : IntOp.shrsi .vector x 16#32 = x.sshiftRight 16 := by simp [IntOp.shrsi]
    rw [e, BitVec.getLsbD_sshiftRight]
    simp [show ¬ 32 ≤ k by omega, show 16 + k < 32 by omega, Nat.add_comm]
    omega
  have e : highs a b = lows (shrsi a (broadcast S64x128 16#32)) (shrsi b (broadcast S64x128 16#32)) := rfl
  rw [e, lows_bit _ _ _ _ hn]
  split
  · exact hs _ _ ‹_›
  · exact (hs _ _ (by omega)).trans (by congr 1; omega)

/-- Even bytes interleaved, read at a bit. -/
theorem evens_bit (a b : IVec S64x128 32) (i : S64x128.Idx) (n : ℕ) (hn : n < 32) :
    (evens a b i).getLsbD n = if n % 16 < 8 then (a i).getLsbD n else (b i).getLsbD (n - 8) := by
  simp only [evens, ori, andi, shli, broadcast, IntOp.ori, IntOp.andi, IntOp.shli]
  interval_cases n <;> simp

/-- Odd bytes interleaved, read at a bit. -/
theorem odds_bit (a b : IVec S64x128 32) (i : S64x128.Idx) (n : ℕ) (hn : n < 32) :
    (odds a b i).getLsbD n = if n % 16 < 8 then (a i).getLsbD (n + 8) else (b i).getLsbD n := by
  have hs : ∀ (x : BitVec 32) (k : ℕ), k < 24 → (IntOp.shrsi .vector x 8#32).getLsbD k = x.getLsbD (k + 8) := by
    intro x k hk
    have e : IntOp.shrsi .vector x 8#32 = x.sshiftRight 8 := by simp [IntOp.shrsi]
    rw [e, BitVec.getLsbD_sshiftRight]
    simp [show ¬ 32 ≤ k by omega, show 8 + k < 32 by omega, Nat.add_comm]
    omega
  rw [odds, evens_bit _ _ _ _ hn]
  split
  · exact hs _ _ (by omega)
  · exact (hs _ _ (by omega)).trans (by congr 1; omega)

/-- Bit `8 q + k` of a tile word is bit `8 b + k` of the `q`-th word array. -/
theorem tileWords_bit (w : Fin 4 → IVec S64x128 32) (b q : Fin 4) (k : Fin 8) (i : S64x128.Idx) :
    (tileWords (w 0) (w 1) (w 2) (w 3) b i).getLsbD (8 * q + k) = (w q i).getLsbD (8 * b + k) := by
  have hk := k.isLt
  fin_cases b <;> fin_cases q <;> simp only [tileWords, pick4] <;>
    first
    | rw [evens_bit _ _ _ _ (by simp; omega)]
    | rw [odds_bit _ _ _ _ (by simp; omega)]
  all_goals
    split_ifs <;> first
      | (exfalso; revert hk; simp at *; omega)
      | (first
         | rw [lows_bit _ _ _ _ (by simp; omega)]
         | rw [highs_bit _ _ _ _ (by simp; omega)])
        split_ifs <;> first
          | (exfalso; omega)
          | rfl
          | (congr 1; omega)

/-- A byte of a 32-bit array read at eight bits: byte row `4 a + q` is byte `q` of word row `a`. -/
theorem bitcast_32_8_getLsbD (x : IVec S64x128 32) (h : S64x128.Bitcasts 32 S256x128 8) (p : Fin 256) (l : Fin 128) (k : ℕ) (hk : k < 8) :
    (bitcast S256x128 8 x h (ix2 p l)).getLsbD k = (x (ix2 ⟨p / 4, by omega⟩ l)).getLsbD (8 * (p % 4) + k) := by
  rw [bitcast_getLsbD x h (ix2 p l) k hk (by decide)]
  have hr : S256x128.row (ix2 p l) = p.val := rfl
  have e1 : (S256x128.row (ix2 p l) * 8 + k) / 32 = p.val / 4 := by rw [hr]; omega
  have e2 : (S256x128.row (ix2 p l) * 8 + k) % 32 = 8 * (p.val % 4) + k := by rw [hr]; omega
  rw [h.srcIdx_congr _ e1 (hp' := fun a ha => by
    have := h.pos_lt (ix2 p l) k hk a ha
    rw [hr] at this; omega), e2]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- The cached code of token `t` of a block, head `h`, lane `d`. -/
def code (x : IVec S16384x128 8) (t h : ℕ) (d : Fin 128) : F .fp8e4m3 :=
  if hh : 8 * t + h < 16384 then FloatOps.ofBits .fp8e4m3 (x (ix2 ⟨8 * t + h, hh⟩ d)) else FloatOps.ofBits .fp8e4m3 0#8

variable {κ : Kind} {sp : Space}

/-- A strided read of a whole array of words. -/
theorem rdW_apply (v : View sig κ sp S4096x128 .i32) (w : IVec S4096x128 32) (n : ℕ) (hn : n + 127 ≤ 4096) (i : Fin 64) (d : Fin 128) :
    rdW (F := F) v (wordsPiece w) n (ix2 i d) = w (ix2 ⟨n + 2 * i, by omega⟩ d) := by
  unfold rdW
  rw [dif_pos hn, View.readCov_eq_canon']
  show View.canon (wordsPiece w) _ = _
  unfold wordsPiece
  rw [View.canon_unit_zero (by funext a; fin_cases a <;> rfl)]
  congr 1
  funext a
  fin_cases a
  · apply Fin.ext; simp [LoadRect.idx, Nat.mul_comm]
  · apply Fin.ext; simp [LoadRect.idx]

/-- A tile read from the words of a block of codes holds that block's codes: row `4 i + j` of a chunk is its token `64 j + i`. -/
theorem tile_apply (v : View sig κ sp S4096x128 .i32) (x : IVec S16384x128 8) (chunk quad b : ℕ) (hc : chunk < 8) (hq : quad < 2) (hb : b < 4)
    (p : Fin 256) (d : Fin 128) :
    tile (F := F) (rdW (F := F) v (wordsPiece (k0_pay166 (F := F) x))) chunk quad b (ix2 p d) =
      code x (chunk * 256 + p % 4 * 64 + p / 4) (4 * quad + b) d := by
  have hlt : 8 * (chunk * 256 + p.val % 4 * 64 + p.val / 4) + (4 * quad + b) < 16384 := by omega
  unfold tile code
  rw [dif_pos hlt]
  show FloatOps.ofBits _ _ = _
  congr 1
  apply BitVec.eq_of_getLsbD_eq
  intro k hk
  rw [bitcast_32_8_getLsbD _ _ _ _ _ hk]
  have hw := tileWords_bit (fun q => rdW (F := F) v (wordsPiece (k0_pay166 (F := F) x)) (2 * (chunk * 256 + q.val * 64) + quad)) ⟨b, hb⟩ ⟨p % 4, by omega⟩ ⟨k, hk⟩ (ix2 ⟨p / 4, by omega⟩ d)
  refine hw.trans ?_
  dsimp only
  rw [rdW_apply _ _ _ (by omega)]
  unfold k0_pay166
  dsimp only
  rw [shapeCast_self, shapeCast_self, ix2_eq_valueIdx,
    bitcast_8_32_getLsbD_ix2 _ _ _ _ _ (by omega) ⟨8 * (chunk * 256 + p.val % 4 * 64 + p.val / 4) + (4 * quad + b), hlt⟩ (by simp; omega), ix2_eq_valueIdx]
  congr 1
  simp
  omega

end Cert.KernelIdeal.Step

end
-- ==== Proof.Val.RealSum.lean ====
/- Sums and maxima of extended reals that are reals, and the order in which a block's tokens are summed. -/
module

public import Idealize.ShloMosaic.PureOps.Ideal
public import Mathlib.Data.EReal.Operations
public import Mathlib.Analysis.SpecialFunctions.Pow.Real

@[expose] public section

noncomputable section

namespace Cert.KernelIdeal.Step

open Idealize.ShloMosaic

/-- A sum of reals, taken on extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a nonnegative real. -/
theorem sum_mul_real {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, EReal.right_distrib_of_nonneg_of_ne_top (by exact_mod_cast ha) (EReal.coe_ne_top a), ih]

/-- The value is a real number. -/
def IsReal (x : EReal) : Prop := ∃ a : ℝ, x = a

theorem isReal_coe (a : ℝ) : IsReal a := ⟨a, rfl⟩

theorem IsReal.max {x y : EReal} : IsReal x → IsReal y → IsReal (max x y) := by
  rintro ⟨a, rfl⟩ ⟨b, rfl⟩
  rcases le_total a b with h | h
  · rw [max_eq_right (by exact_mod_cast h)]; exact ⟨b, rfl⟩
  · rw [max_eq_left (by exact_mod_cast h)]; exact ⟨a, rfl⟩

theorem IsReal.add {x y : EReal} : IsReal x → IsReal y → IsReal (x + y) := by
  rintro ⟨a, rfl⟩ ⟨b, rfl⟩; exact ⟨a + b, by push_cast; rfl⟩

theorem IsReal.mul {x y : EReal} : IsReal x → IsReal y → IsReal (x * y) := by
  rintro ⟨a, rfl⟩ ⟨b, rfl⟩; exact ⟨a * b, by push_cast; rfl⟩

theorem IsReal.sum {ι : Type*} {s : Finset ι} {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (by simp)).add (ih fun i hi => h i (by simp [hi]))

/-- The greatest of values none of which is `⊤` and one of which is a real is a real. -/
theorem isReal_fold_max {ι : Type*} {s : Finset ι} {f : ι → EReal} (hs : ∃ i ∈ s, IsReal (f i)) (h : ∀ i ∈ s, f i ≠ ⊤) :
    IsReal (s.fold max ⊥ f) := by
  have e : s.fold max ⊥ f ≠ ⊤ := by
    intro ht
    have h1 : (⊤ : EReal) ≤ s.fold max ⊥ f := ht.ge
    rw [Finset.le_fold_max] at h1
    rcases h1 with h1 | ⟨i, hi, h1⟩
    · simp at h1
    · exact h i hi (top_le_iff.mp h1)
  have e' : s.fold max ⊥ f ≠ ⊥ := by
    obtain ⟨i, hi, a, ha⟩ := hs
    intro hb
    have : f i ≤ s.fold max ⊥ f := Finset.le_fold_max _ |>.mpr (Or.inr ⟨i, hi, le_rfl⟩)
    rw [hb, ha] at this
    simp at this
  exact ⟨_, (EReal.coe_toReal e e').symm⟩

theorem IsReal.ne_top {x : EReal} : IsReal x → x ≠ ⊤ := by rintro ⟨a, rfl⟩; exact EReal.coe_ne_top a

/-- The block's token at row `j` of a chunk's tile. -/
def tok (chunk j : ℕ) : ℕ := chunk * 256 + j % 4 * 64 + j / 4

/-- A chunk's rows are its tokens in another order. -/
theorem sum_tok {M : Type*} [AddCommMonoid M] (f : ℕ → M) (chunk : ℕ) :
    ∑ j : Fin 256, f (tok chunk j) = ∑ t ∈ Finset.range 256, f (chunk * 256 + t) := by
  rw [← Finset.sum_range (fun j => f (tok chunk j))]
  refine Finset.sum_nbij' (fun j => j % 4 * 64 + j / 4) (fun t => t % 64 * 4 + t / 64) ?_ ?_ ?_ ?_ ?_
  · intro j hj; simp only [Finset.mem_range] at *; omega
  · intro j hj; simp only [Finset.mem_range] at *; omega
  · intro j hj; simp only [Finset.mem_range] at *; omega
  · intro j hj; simp only [Finset.mem_range] at *; omega
  · intro j hj; simp only [tok]; congr 1; omega

/-- Sums over consecutive runs of `b` numbers, put together. -/
theorem sum_runs {M : Type*} [AddCommMonoid M] (f : ℕ → M) (b n : ℕ) :
    ∑ c ∈ Finset.range n, ∑ t ∈ Finset.range b, f (c * b + t) = ∑ t ∈ Finset.range (n * b), f t := by
  induction n with
  | zero => simp
  | succ n ih => rw [Finset.sum_range_succ, ih, Nat.add_mul, Nat.one_mul, Finset.sum_range_add]

/-- The eight chunks' rows are the block's tokens in another order. -/
theorem sum_chunks {M : Type*} [AddCommMonoid M] (f : ℕ → M) :
    ∑ c ∈ Finset.range 8, ∑ j : Fin 256, f (tok c j) = ∑ t ∈ Finset.range 2048, f t := by
  simp only [sum_tok]
  exact sum_runs f 256 8

/-- The same with the two halves of a chunk apart and the lanes summed last. -/
theorem sum_lanes {M : Type*} [AddCommMonoid M] (f : ℕ → M) :
    ∑ j : Fin 128, ∑ c ∈ Finset.range 8, (f (tok c j) + f (tok c (128 + j))) = ∑ t ∈ Finset.range 2048, f t := by
  rw [Finset.sum_comm, ← sum_chunks]
  refine Finset.sum_congr rfl fun c _ => ?_
  rw [Finset.sum_add_distrib]
  exact (Fin.sum_univ_add (fun j : Fin (128 + 128) => f (tok c j))).symm

/-- `2 ^ (a - b)`, as the step writes it. -/
theorem exp2_sub (a b : ℝ) : Ideal.exp2 ((a : EReal) - (b : EReal)) = (((2 : ℝ) ^ (a - b) : ℝ) : EReal) := by
  rw [← EReal.coe_sub]; rfl

end Cert.KernelIdeal.Step

end
-- ==== Proof.Val.StepValue.lean ====
/- One grid point's arithmetic on extended reals: what each of the step's arrays holds, entry by entry. -/
module

public import proofs.«01_k».proof.Proof.Val.Tile
public import proofs.«01_k».proof.Proof.Val.RealSum

@[expose] public section

noncomputable section

namespace Cert.KernelIdeal.Step

open Cert.KernelIdeal Cert.KernelIdeal.Gen Idealize.ShloMosaic Idealize.SL.Sem

/-- A pair's two heads' tiles, side by side. -/
theorem tiles_apply (r : ℕ → IVec S64x128 32) (chunk p : ℕ) (j : Fin 256) (k : Fin 256) :
    tiles (F := Ideal) r chunk p (ix2 j k) =
      if h : k.val < 128 then tile (F := Ideal) r chunk (p / 2) (2 * (p % 2)) (ix2 j ⟨k, h⟩)
      else tile (F := Ideal) r chunk (p / 2) (2 * (p % 2) + 1) (ix2 j ⟨k - 128, by omega⟩) := by
  unfold tiles
  pointwise

/-- What the step reads: the codes of `K` behind the tiles, the queries `q` in pairs of heads, the factors `c`. -/
structure Reads (rK : ℕ → IVec S64x128 32) (rQ : ℕ → Vec Ideal S1x64x256 .bf16) (rC : ℕ → Vec Ideal S64x128 .f32)
    (K : ℕ → ℕ → Fin 128 → EReal) (q : ℕ → Fin 128 → EReal) (c : ℕ → EReal) : Prop where
  tile : ∀ chunk quad b, chunk < 8 → quad < 2 → b < 4 → ∀ (p : Fin 256) (d : Fin 128),
    tile (F := Ideal) rK chunk quad b (ix2 p d) = K (tok chunk p) (4 * quad + b) d
  lo : ∀ p, p < 4 → ∀ (i : Fin 64) (k : Fin 128), rQ p (ix3 0 i ⟨k, by omega⟩) = if i.val < 32 then q (64 * p + i) k else 0
  hi : ∀ p, p < 4 → ∀ (i : Fin 64) (k : Fin 128), rQ p (ix3 0 i ⟨128 + k, by omega⟩) = if i.val < 32 then 0 else q (64 * p + i) k
  fac : ∀ p, p < 4 → ∀ (i : Fin 64) (j : Fin 128), rC p (ix2 i j) = c (64 * p + i)

/-- The logit of row `r` and token `t` of the block. -/
def logit (K : ℕ → ℕ → Fin 128 → EReal) (q : ℕ → Fin 128 → EReal) (c : ℕ → EReal) (r t : ℕ) : EReal :=
  (∑ d : Fin 128, q r d * K t (r / 32) d) * c r

section Logits

variable {rK : ℕ → IVec S64x128 32} {rQ : ℕ → Vec Ideal S1x64x256 .bf16} {rC : ℕ → Vec Ideal S64x128 .f32}
  {K : ℕ → ℕ → Fin 128 → EReal} {q : ℕ → Fin 128 → EReal} {c : ℕ → EReal}

/-- A row's dot products with its own head's codes: the other head's half meets zeros. -/
theorem raw_apply (H : Reads rK rQ rC K q c) (p chunk : ℕ) (hp : p < 4) (hc : chunk < 8) (i : Fin 64) (j : Fin 256) :
    raw (F := Ideal) rK rQ p chunk (ix2 i j) = ∑ d : Fin 128, q (64 * p + i) d * K (tok chunk j) ((64 * p + i) / 32) d := by
  have e : raw (F := Ideal) rK rQ p chunk (ix2 i j) = ∑ x : Fin (128 + 128), rQ p (ix3 0 i x) * tiles (F := Ideal) rK chunk p (ix2 j x) := by
    unfold raw
    pointwise
  rw [e, Fin.sum_univ_add]
  have lo : ∀ d : Fin 128, rQ p (ix3 0 i (Fin.castAdd 128 d)) * tiles (F := Ideal) rK chunk p (ix2 j (Fin.castAdd 128 d)) =
      (if i.val < 32 then q (64 * p + i) d else 0) * K (tok chunk j) (2 * p) d := by
    intro d
    rw [tiles_apply, dif_pos (show ((Fin.castAdd 128 d : Fin (128 + 128)) : ℕ) < 128 from d.isLt), H.tile _ _ _ hc (by omega) (by omega)]
    rw [show 4 * (p / 2) + 2 * (p % 2) = 2 * p by omega]
    exact congrArg (· * _) (H.lo p hp i d)
  have hi : ∀ d : Fin 128, rQ p (ix3 0 i (Fin.natAdd 128 d)) * tiles (F := Ideal) rK chunk p (ix2 j (Fin.natAdd 128 d)) =
      (if i.val < 32 then 0 else q (64 * p + i) d) * K (tok chunk j) (2 * p + 1) d := by
    intro d
    rw [tiles_apply, dif_neg (show ¬ ((Fin.natAdd 128 d : Fin (128 + 128)) : ℕ) < 128 by simp), H.tile _ _ _ hc (by omega) (by omega)]
    rw [show 4 * (p / 2) + (2 * (p % 2) + 1) = 2 * p + 1 by omega]
    have e3 : (⟨((Fin.natAdd 128 d : Fin (128 + 128)) : ℕ) - 128, by have := d.isLt; simp⟩ : Fin 128) = d := by apply Fin.ext; simp
    rw [show K (tok chunk j) (2 * p + 1) ⟨((Fin.natAdd 128 d : Fin (128 + 128)) : ℕ) - 128, _⟩ = K (tok chunk j) (2 * p + 1) d from congrArg _ e3]
    exact congrArg (· * _) (H.hi p hp i d)
  simp only [lo, hi]
  by_cases h : i.val < 32
  · simp [h, show (64 * p + i.val) / 32 = 2 * p by omega]
  · simp [h, show (64 * p + i.val) / 32 = 2 * p + 1 by omega]

theorem t0_apply (H : Reads rK rQ rC K q c) (p chunk : ℕ) (hp : p < 4) (hc : chunk < 8) (i : Fin 64) (j : Fin 128) :
    t0 (F := Ideal) rK rQ rC p chunk (ix2 i j) = logit K q c (64 * p + i) (tok chunk j) := by
  have e : t0 (F := Ideal) rK rQ rC p chunk (ix2 i j) = raw (F := Ideal) rK rQ p chunk (ix2 i ⟨j, by omega⟩) * rC p (ix2 i j) := by
    unfold t0
    pointwise
  rw [e, raw_apply H p chunk hp hc, H.fac p hp]; rfl

theorem t1_apply (H : Reads rK rQ rC K q c) (p chunk : ℕ) (hp : p < 4) (hc : chunk < 8) (i : Fin 64) (j : Fin 128) :
    t1 (F := Ideal) rK rQ rC p chunk (ix2 i j) = logit K q c (64 * p + i) (tok chunk (128 + j)) := by
  have e : t1 (F := Ideal) rK rQ rC p chunk (ix2 i j) = raw (F := Ideal) rK rQ p chunk (ix2 i ⟨128 + j, by omega⟩) * rC p (ix2 i j) := by
    unfold t1
    pointwise
  rw [e, raw_apply H p chunk hp hc, H.fac p hp]; rfl

theorem tok_lt {chunk j : ℕ} (hc : chunk < 8) (hj : j < 256) : tok chunk j < 2048 := by unfold tok; omega

/-- With real logits, the greatest per lane is real. -/
theorem isReal_laneMax (H : Reads rK rQ rC K q c) (hr : ∀ r t, r < 256 → t < 2048 → IsReal (logit K q c r t)) (p : ℕ) (hp : p < 4)
    (i : Fin 64) (j : Fin 128) (n : ℕ) (hn : n < 8) : IsReal (laneMax (F := Ideal) rK rQ rC p n (ix2 i j)) := by
  have h2 : ∀ ch, ch < 8 → IsReal (max (t0 (F := Ideal) rK rQ rC p ch (ix2 i j)) (t1 (F := Ideal) rK rQ rC p ch (ix2 i j))) := by
    intro ch hc
    rw [t0_apply H p ch hp hc, t1_apply H p ch hp hc]
    exact (hr _ _ (by omega) (tok_lt hc (by omega))).max (hr _ _ (by omega) (tok_lt hc (by omega)))
  induction n with
  | zero => exact h2 0 hn
  | succ n ih => exact (ih (by omega)).max (h2 (n + 1) hn)

/-- With real logits, the greatest of a row over the block is one real, the same in every lane. -/
theorem blockMax_apply (H : Reads rK rQ rC K q c) (hr : ∀ r t, r < 256 → t < 2048 → IsReal (logit K q c r t)) (r : Fin 256) :
    ∃ a : ℝ, ∀ j : Fin 128, blockMax (F := Ideal) rK rQ rC (ix2 r j) = a := by
  have e : ∃ f : Fin 128 → EReal, (∀ x, IsReal (f x)) ∧ ∀ j : Fin 128, blockMax (F := Ideal) rK rQ rC (ix2 r j) = Finset.univ.fold max ⊥ f := by
    refine ⟨fun x =>
        if h : r.val < 64 then laneMax (F := Ideal) rK rQ rC 0 7 (ix2 ⟨r.val, by omega⟩ x)
        else if h : r.val - 64 < 64 then laneMax (F := Ideal) rK rQ rC 1 7 (ix2 ⟨r.val - 64, by omega⟩ x)
        else if h : r.val - 64 - 64 < 64 then laneMax (F := Ideal) rK rQ rC 2 7 (ix2 ⟨r.val - 64 - 64, by omega⟩ x)
        else laneMax (F := Ideal) rK rQ rC 3 7 (ix2 ⟨r.val - 64 - 64 - 64, by omega⟩ x), ?_, ?_⟩
    · intro x
      dsimp only
      split_ifs <;> exact isReal_laneMax H hr _ (by omega) _ _ _ (by omega)
    · intro j
      have hb : Ideal.ofBits .f32 0xFF800000#32 = ⊥ := by simp [Ideal.ofBits, Ideal.ieee]
      unfold blockMax
      pointwise
      rw [hb]
  obtain ⟨f, hf, he⟩ := e
  obtain ⟨a, ha⟩ := isReal_fold_max (s := Finset.univ) (f := f) ⟨0, by simp, hf 0⟩ fun i _ => (hf i).ne_top
  exact ⟨a, fun j => by rw [he, ha]⟩

/-- So the running maximum stays one real per row. -/
theorem mNew_apply (H : Reads rK rQ rC K q c) (hr : ∀ r t, r < 256 → t < 2048 → IsReal (logit K q c r t)) (m : Vec Ideal S256x128 .f32) (r : Fin 256)
    (hm : ∃ μ : ℝ, ∀ j, m (ix2 r j) = (μ : EReal)) : ∃ μ : ℝ, ∀ j, mNew (F := Ideal) rK rQ rC m (ix2 r j) = (μ : EReal) := by
  obtain ⟨μ, hμ⟩ := hm
  obtain ⟨a, ha⟩ := blockMax_apply H hr r
  obtain ⟨b, hb⟩ := (isReal_coe μ).max (isReal_coe a)
  refine ⟨b, fun j => ?_⟩
  rw [← hb]
  show max (m (ix2 r j)) (blockMax (F := Ideal) rK rQ rC (ix2 r j)) = _
  rw [hμ, ha]

/-- A dense rectangle's element, coordinate by coordinate. -/
theorem emb_unit {s : Shape} {off size : Fin s.rank → ℕ} (inb : ∀ a, off a + size a ≤ s.size a) (x : (Rect.unit off size inb).shape.Idx) (a : Fin s.rank) :
    ((Rect.unit off size inb).emb x a).val = off a + (x a).val := by
  show off a + 1 * (x a).val = _
  omega

/-- Every store of the block's logits holds the logits of the rows and tokens it covers. -/
theorem pieces_mem (H : Reads rK rQ rC K q c) (n : ℕ) (hn : n ≤ 8) :
    (∀ pc ∈ pieces (F := Ideal) rK rQ rC n, ∀ x : pc.1.shape.Idx, pc.2 x = (fun y : S256x2048.Idx => logit K q c (y 0) (tok ((y 1).val / 256) ((y 1).val % 256))) (pc.1.emb x)) := by
  induction n with
  | zero => intro pc hpc; simp [pieces] at hpc
  | succ n ih =>
    intro pc hpc x
    unfold pieces at hpc
    rw [dif_pos (by omega)] at hpc
    rw [List.mem_append] at hpc
    rcases hpc with hpc | hpc
    · simp only [List.mem_cons, List.not_mem_nil, or_false] at hpc
      have g0 : ∀ (p : ℕ) (_ : p < 4) (y : S64x128.Idx) (r t : ℕ), r = 64 * p + (y 0).val → t = 256 * n + (y 1).val →
          t0 (F := Ideal) rK rQ rC p n y = logit K q c r (tok (t / 256) (t % 256)) := by
        intro p hp y r t hr ht
        obtain ⟨i, j, rfl⟩ : ∃ (i : Fin 64) (j : Fin 128), y = ix2 i j := ⟨y 0, y 1, eq_ix2 y⟩
        rw [t0_apply H p n hp (by omega), hr, ht]
        have hi : i.val < 64 := i.isLt
        have hj : j.val < 128 := j.isLt
        simp only [ix2_0, ix2_1]
        congr 2 <;> omega
      have g1 : ∀ (p : ℕ) (_ : p < 4) (y : S64x128.Idx) (r t : ℕ), r = 64 * p + (y 0).val → t = 256 * n + 128 + (y 1).val →
          t1 (F := Ideal) rK rQ rC p n y = logit K q c r (tok (t / 256) (t % 256)) := by
        intro p hp y r t hr ht
        obtain ⟨i, j, rfl⟩ : ∃ (i : Fin 64) (j : Fin 128), y = ix2 i j := ⟨y 0, y 1, eq_ix2 y⟩
        rw [t1_apply H p n hp (by omega), hr, ht]
        have hi : i.val < 64 := i.isLt
        have hj : j.val < 128 := j.isLt
        simp only [ix2_0, ix2_1]
        congr 2 <;> omega
      rcases hpc with rfl | rfl | rfl | rfl | rfl | rfl | rfl | rfl <;> dsimp only <;> rw [shapeCast_self]
      · exact g1 3 (by omega) x _ _ (emb_unit _ x 0) (emb_unit _ x 1)
      · exact g0 3 (by omega) x _ _ (emb_unit _ x 0) (emb_unit _ x 1)
      · exact g1 2 (by omega) x _ _ (emb_unit _ x 0) (emb_unit _ x 1)
      · exact g0 2 (by omega) x _ _ (emb_unit _ x 0) (emb_unit _ x 1)
      · exact g1 1 (by omega) x _ _ (emb_unit _ x 0) (emb_unit _ x 1)
      · exact g0 1 (by omega) x _ _ (emb_unit _ x 0) (emb_unit _ x 1)
      · exact g1 0 (by omega) x _ _ (emb_unit _ x 0) (emb_unit _ x 1)
      · exact g0 0 (by omega) x _ _ (emb_unit _ x 0) (emb_unit _ x 1)
    · exact ih (by omega) pc hpc x

/-- The stores over the first `n` chunks cover those chunks' columns. -/
theorem pieces_cover (n : ℕ) (hn : n ≤ 8) (y : S256x2048.Idx) (hy : (y 1).val < 256 * n) :
    ∃ pc ∈ pieces (F := Ideal) rK rQ rC n, y ∈ pc.1.set := by
  induction n with
  | zero => omega
  | succ n ih =>
    by_cases h : (y 1).val < 256 * n
    · obtain ⟨pc, h1, h2⟩ := ih (by omega) h
      refine ⟨pc, ?_, h2⟩
      unfold pieces
      rw [dif_pos (by omega)]
      exact List.mem_append_right _ h1
    · have h0 : (y 0).val < 256 := (y 0).isLt
      have key : ∀ (a b : ℕ) (inb : ∀ d, (![a, b] : Fin 2 → ℕ) d + S64x128.size d ≤ S256x2048.size d), a ≤ (y 0).val → (y 0).val < a + 64 → b ≤ (y 1).val → (y 1).val < b + 128 →
          y ∈ (Rect.unit (s := S256x2048) ![a, b] S64x128.size inb).set := by
        intro a b inb h1 h2 h3 h4
        rw [Rect.mem_set_unit]
        intro d
        fin_cases d
        · exact ⟨h1, h2⟩
        · exact ⟨h3, h4⟩
      unfold pieces
      rw [dif_pos (by omega)]
      have h4 : (y 0).val / 64 = 0 ∨ (y 0).val / 64 = 1 ∨ (y 0).val / 64 = 2 ∨ (y 0).val / 64 = 3 := by omega
      by_cases hh : (y 1).val < 256 * n + 128 <;> rcases h4 with h4 | h4 | h4 | h4
      · refine Exists.intro ?w1 (And.intro (List.mem_append_left _ ?m1) ?k1)
        case m1 => (iterate 7 apply List.mem_cons_of_mem); exact List.mem_cons_self
        case k1 => exact key _ _ (by intro a; fin_cases a <;> simp <;> omega) (by omega) (by omega) (by omega) (by omega)
      · refine Exists.intro ?w2 (And.intro (List.mem_append_left _ ?m2) ?k2)
        case m2 => (iterate 5 apply List.mem_cons_of_mem); exact List.mem_cons_self
        case k2 => exact key _ _ (by intro a; fin_cases a <;> simp <;> omega) (by omega) (by omega) (by omega) (by omega)
      · refine Exists.intro ?w3 (And.intro (List.mem_append_left _ ?m3) ?k3)
        case m3 => (iterate 3 apply List.mem_cons_of_mem); exact List.mem_cons_self
        case k3 => exact key _ _ (by intro a; fin_cases a <;> simp <;> omega) (by omega) (by omega) (by omega) (by omega)
      · refine Exists.intro ?w4 (And.intro (List.mem_append_left _ ?m4) ?k4)
        case m4 => (iterate 1 apply List.mem_cons_of_mem); exact List.mem_cons_self
        case k4 => exact key _ _ (by intro a; fin_cases a <;> simp <;> omega) (by omega) (by omega) (by omega) (by omega)
      · refine Exists.intro ?w5 (And.intro (List.mem_append_left _ ?m5) ?k5)
        case m5 => (iterate 6 apply List.mem_cons_of_mem); exact List.mem_cons_self
        case k5 => exact key _ _ (by intro a; fin_cases a <;> simp <;> omega) (by omega) (by omega) (by omega) (by omega)
      · refine Exists.intro ?w6 (And.intro (List.mem_append_left _ ?m6) ?k6)
        case m6 => (iterate 4 apply List.mem_cons_of_mem); exact List.mem_cons_self
        case k6 => exact key _ _ (by intro a; fin_cases a <;> simp <;> omega) (by omega) (by omega) (by omega) (by omega)
      · refine Exists.intro ?w7 (And.intro (List.mem_append_left _ ?m7) ?k7)
        case m7 => (iterate 2 apply List.mem_cons_of_mem); exact List.mem_cons_self
        case k7 => exact key _ _ (by intro a; fin_cases a <;> simp <;> omega) (by omega) (by omega) (by omega) (by omega)
      · refine Exists.intro ?w8 (And.intro (List.mem_append_left _ ?m8) ?k8)
        case m8 => exact List.mem_cons_self
        case k8 => exact key _ _ (by intro a; fin_cases a <;> simp <;> omega) (by omega) (by omega) (by omega) (by omega)

variable {κ : Kind} {sp : Space}

/-- What is read back from the logit scratch: half `h` of a chunk's logits. -/
theorem rdS_apply (H : Reads rK rQ rC K q c) (v : View sig κ sp S256x2048 .f32) (p ch h : ℕ) (hp : p < 4) (hc : ch < 8) (hh : h < 2)
    (i : Fin 64) (j : Fin 128) :
    rdS (F := Ideal) v (pieces rK rQ rC 8) p (2 * ch + h) (ix2 i j) = logit K q c (64 * p + i) (tok ch (128 * h + j)) := by
  unfold rdS
  rw [dif_pos ⟨hp, by omega⟩, View.readCov_eq_canon']
  refine (View.canon_apply_of_pieces (fun y : S256x2048.Idx => logit K q c (y 0).val (tok ((y 1).val / 256) ((y 1).val % 256))) _ (pieces_mem H 8 le_rfl) _ (pieces_cover 8 le_rfl _ (Fin.isLt _))).trans ?_
  have e0 : ∀ (inb : ∀ d, (![64 * p, 128 * (2 * ch + h)] : Fin 2 → ℕ) d + S64x128.size d ≤ S256x2048.size d), ((Rect.unit (s := S256x2048) ![64 * p, 128 * (2 * ch + h)] S64x128.size inb).toLoadRect.idx (ix2 i j) 0).val = 64 * p + i := by
    intro inb; exact emb_unit inb _ 0
  have e1 : ∀ (inb : ∀ d, (![64 * p, 128 * (2 * ch + h)] : Fin 2 → ℕ) d + S64x128.size d ≤ S256x2048.size d), ((Rect.unit (s := S256x2048) ![64 * p, 128 * (2 * ch + h)] S64x128.size inb).toLoadRect.idx (ix2 i j) 1).val = 128 * (2 * ch + h) + j := by
    intro inb; exact emb_unit inb _ 1
  dsimp only
  rw [e0, e1]
  have hj := j.isLt
  congr 2 <;> omega

end Logits

section Sums

variable {rV : ℕ → IVec S64x128 32} {rS : ℕ → ℕ → Vec Ideal S64x128 .f32} {mn : FVec Ideal S256x128 .f32} {s : ℕ → ℕ → ℝ} {μ : ℕ → ℝ}
  {V : ℕ → ℕ → Fin 128 → EReal}

/-- What the second half of the step reads: real logits `s`, the running maximum `μ`, the codes of `V` behind the tiles. -/
structure Sums (rV : ℕ → IVec S64x128 32) (rS : ℕ → ℕ → Vec Ideal S64x128 .f32) (mn : FVec Ideal S256x128 .f32) (s : ℕ → ℕ → ℝ) (μ : ℕ → ℝ)
    (V : ℕ → ℕ → Fin 128 → EReal) : Prop where
  tile : ∀ chunk quad b, chunk < 8 → quad < 2 → b < 4 → ∀ (p : Fin 256) (d : Fin 128),
    tile (F := Ideal) rV chunk quad b (ix2 p d) = V (tok chunk p) (4 * quad + b) d
  log : ∀ p ch h, p < 4 → ch < 8 → h < 2 → ∀ (i : Fin 64) (j : Fin 128), rS p (2 * ch + h) (ix2 i j) = (s (64 * p + i) (tok ch (128 * h + j)) : EReal)
  max : ∀ (r : Fin 256) (j : Fin 128), mn (ix2 r j) = (μ r : EReal)

/-- The weight of token `t` in row `r`, relative to `μ`. -/
def wt (s : ℕ → ℕ → ℝ) (μ : ℕ → ℝ) (r t : ℕ) : ℝ := 2 ^ (s r t - μ r)

theorem mRows_apply (H : Sums rV rS mn s μ V) (p : ℕ) (hp : p < 4) (i : Fin 64) (j : Fin 128) :
    mRows (F := Ideal) mn p (ix2 i j) = (μ (64 * p + i) : EReal) := by
  have h4 : p = 0 ∨ p = 1 ∨ p = 2 ∨ p = 3 := by omega
  rcases h4 with rfl | rfl | rfl | rfl <;> simp only [mRows, pick4] <;> pointwise <;> rw [H.max] <;> congr 2 <;> simp

theorem e_apply (H : Sums rV rS mn s μ V) (p ch h : ℕ) (hp : p < 4) (hc : ch < 8) (hh : h < 2) (i : Fin 64) (j : Fin 128) :
    e (F := Ideal) rS mn p ch h (ix2 i j) = (wt s μ (64 * p + i) (tok ch (128 * h + j)) : EReal) := by
  show Ideal.exp2 (rS p (2 * ch + h) (ix2 i j) - mRows (F := Ideal) mn p (ix2 i j)) = _
  rw [H.log p ch h hp hc hh, mRows_apply H p hp, exp2_sub]
  rfl

theorem laneSum_apply (H : Sums rV rS mn s μ V) (p : ℕ) (hp : p < 4) (i : Fin 64) (j : Fin 128) (n : ℕ) (hn : n < 8) :
    laneSum (F := Ideal) rS mn p n (ix2 i j) =
      ∑ ch ∈ Finset.range (n + 1), ((wt s μ (64 * p + i) (tok ch j) : EReal) + (wt s μ (64 * p + i) (tok ch (128 + j)) : EReal)) := by
  induction n with
  | zero =>
    show e (F := Ideal) rS mn p 0 0 (ix2 i j) + e (F := Ideal) rS mn p 0 1 (ix2 i j) = _
    rw [e_apply H p 0 0 hp hn (by omega), e_apply H p 0 1 hp hn (by omega)]
    simp
  | succ n ih =>
    show laneSum (F := Ideal) rS mn p n (ix2 i j) + (e (F := Ideal) rS mn p (n + 1) 0 (ix2 i j) + e (F := Ideal) rS mn p (n + 1) 1 (ix2 i j)) = _
    rw [ih (by omega), e_apply H p _ 0 hp hn (by omega), e_apply H p _ 1 hp hn (by omega), Finset.sum_range_succ _ (n + 1)]
    simp

/-- A chunk's weights times the codes of the head the column belongs to. -/
theorem o_apply (H : Sums rV rS mn s μ V) (p ch : ℕ) (hp : p < 4) (hc : ch < 8) (i : Fin 64) (g : Fin 2) (d : Fin 128) :
    o (F := Ideal) rV rS mn p ch (ix2 i ⟨128 * g + d, by omega⟩) =
      ∑ k : Fin 256, (wt s μ (64 * p + i) (tok ch k) : EReal) * V (tok ch k) (2 * p + g) d := by
  have e : o (F := Ideal) rV rS mn p ch (ix2 i ⟨128 * g + d, by omega⟩) =
      ∑ x : Fin 128, e (F := Ideal) rS mn p ch 0 (ix2 i x) * tiles (F := Ideal) rV ch p (ix2 ⟨x, by omega⟩ ⟨128 * g + d, by omega⟩) +
      ∑ x : Fin 128, e (F := Ideal) rS mn p ch 1 (ix2 i x) * tiles (F := Ideal) rV ch p (ix2 ⟨128 + x, by omega⟩ ⟨128 * g + d, by omega⟩) := by
    unfold o
    pointwise
  have ht : ∀ k : Fin 256, tiles (F := Ideal) rV ch p (ix2 k ⟨128 * g + d, by omega⟩) = V (tok ch k) (2 * p + g) d := by
    intro k
    rw [tiles_apply]
    have hd := d.isLt
    by_cases h : g.val = 0
    · rw [dif_pos (by simp [h]), H.tile _ _ _ hc (by omega) (by omega)]
      rw [show 4 * (p / 2) + 2 * (p % 2) = 2 * p + g by omega]
      exact congrArg _ (Fin.ext (by simp [h]))
    · have h1 : g.val = 1 := by omega
      rw [dif_neg (by simp [h1]), H.tile _ _ _ hc (by omega) (by omega)]
      rw [show 4 * (p / 2) + (2 * (p % 2) + 1) = 2 * p + g by omega]
      exact congrArg _ (Fin.ext (by simp [h1]))
  rw [e]
  simp only [ht, e_apply H p ch 0 hp hc (by omega), e_apply H p ch 1 hp hc (by omega)]
  refine Eq.trans ?_ (Fin.sum_univ_add (fun k : Fin (128 + 128) => (wt s μ (64 * p + i) (tok ch k) : EReal) * V (tok ch k) (2 * p + g) d)).symm
  rfl

theorem out_apply (H : Sums rV rS mn s μ V) (p : ℕ) (hp : p < 4) (i : Fin 64) (g : Fin 2) (d : Fin 128) (n : ℕ) (hn : n < 8) :
    out (F := Ideal) rV rS mn p n (ix2 i ⟨128 * g + d, by omega⟩) =
      ∑ ch ∈ Finset.range (n + 1), ∑ k : Fin 256, (wt s μ (64 * p + i) (tok ch k) : EReal) * V (tok ch k) (2 * p + g) d := by
  induction n with
  | zero => rw [out, o_apply H p 0 hp hn]; simp
  | succ n ih =>
    show out (F := Ideal) rV rS mn p n _ + o (F := Ideal) rV rS mn p (n + 1) _ = _
    rw [ih (by omega), o_apply H p (n + 1) hp hn, Finset.sum_range_succ _ (n + 1)]

theorem laneSum_row (H : Sums rV rS mn s μ V) (p : ℕ) (hp : p < 4) (i : Fin 64) (j : Fin 128) (r : ℕ) (hr : r = 64 * p + i) :
    laneSum (F := Ideal) rS mn p 7 (ix2 i j) =
      ∑ ch ∈ Finset.range 8, ((wt s μ r (tok ch j) : EReal) + (wt s μ r (tok ch (128 + j)) : EReal)) := by
  subst hr
  exact laneSum_apply H p hp i j 7 (by omega)

theorem out_row (H : Sums rV rS mn s μ V) (p : ℕ) (hp : p < 4) (i : Fin 64) (x : Fin 256) (d : Fin 128) (r : ℕ) (hr : r = 64 * p + i)
    (hx : x.val = 128 * (i.val / 32) + d) :
    out (F := Ideal) rV rS mn p 7 (ix2 i x) = ∑ t ∈ Finset.range 2048, (wt s μ r t : EReal) * V t (r / 32) d := by
  subst hr
  have hi := i.isLt
  have hx' : x = ⟨128 * (⟨i.val / 32, by omega⟩ : Fin 2).val + d, by have := d.isLt; simp; omega⟩ := Fin.ext hx
  rw [hx', out_apply H p hp i ⟨i.val / 32, by omega⟩ d 7 (by omega), show (64 * p + i.val) / 32 = 2 * p + i.val / 32 by omega]
  exact sum_chunks (fun t => (wt s μ (64 * p + i) t : EReal) * V t (2 * p + i.val / 32) d)

/-- The factor by which the old sums are scaled. -/
theorem scale_apply (H : Sums rV rS mn s μ V) (m : Vec Ideal S256x128 .f32) (r : Fin 256) (ν : ℝ) (hm : ∀ j, m (ix2 r j) = (ν : EReal)) (j : Fin 128) :
    (FloatOps.exp2 (m (ix2 r j) - mn (ix2 r j)) : Ideal .f32) = (((2 : ℝ) ^ (ν - μ r) : ℝ) : EReal) := by
  rw [hm, H.max]
  exact exp2_sub _ _

attribute [local irreducible] laneSum out wt tok

/-- A row's lane sums together: the old ones scaled, and the block's weights. -/
theorem lNew_apply (H : Sums rV rS mn s μ V) (m l : Vec Ideal S256x128 .f32) (r : Fin 256) (ν : ℝ) (hm : ∀ j, m (ix2 r j) = (ν : EReal)) :
    ∑ j : Fin 128, lNew (F := Ideal) rS mn m l (ix2 r j) =
      (∑ j : Fin 128, l (ix2 r j)) * (((2 : ℝ) ^ (ν - μ r) : ℝ) : EReal) + ∑ t ∈ Finset.range 2048, (wt s μ r t : EReal) := by
  have e : ∀ j : Fin 128, lNew (F := Ideal) rS mn m l (ix2 r j) = l (ix2 r j) * (((2 : ℝ) ^ (ν - μ r) : ℝ) : EReal) +
      ∑ ch ∈ Finset.range 8, ((wt s μ r (tok ch j) : EReal) + (wt s μ r (tok ch (128 + j)) : EReal)) := by
    intro j
    have hr := r.isLt
    unfold lNew
    pointwise
    rw [scale_apply H m r ν hm]
    refine congrArg (l (ix2 r j) * (((2 : ℝ) ^ (ν - μ r) : ℝ) : EReal) + ·) ?_
    by_cases h0 : r.val < 64
    · rw [dif_pos h0]
      exact laneSum_row H 0 (by omega) ⟨r.val, by omega⟩ _ r (by simp)
    rw [dif_neg h0]
    by_cases h1 : r.val - 64 < 64
    · rw [dif_pos h1]
      exact laneSum_row H 1 (by omega) ⟨r.val - 64, by omega⟩ _ r (by simp; omega)
    rw [dif_neg h1]
    by_cases h2 : r.val - 64 - 64 < 64
    · rw [dif_pos h2]
      exact laneSum_row H 2 (by omega) ⟨r.val - 64 - 64, by omega⟩ _ r (by simp; omega)
    rw [dif_neg h2]
    exact laneSum_row H 3 (by omega) ⟨r.val - 64 - 64 - 64, by omega⟩ _ r (by simp; omega)
  simp only [e]
  rw [Finset.sum_add_distrib, ← sum_mul_real _ _ _ (by positivity)]
  rw [sum_lanes (fun t => (wt s μ r t : EReal))]

theorem accNew_apply (H : Sums rV rS mn s μ V) (m acc : Vec Ideal S256x128 .f32) (r : Fin 256) (ν : ℝ) (hm : ∀ j, m (ix2 r j) = (ν : EReal)) (d : Fin 128) :
    accNew (F := Ideal) rV rS mn m acc (ix2 r d) =
      acc (ix2 r d) * (((2 : ℝ) ^ (ν - μ r) : ℝ) : EReal) + ∑ t ∈ Finset.range 2048, (wt s μ r t : EReal) * V t (r / 32) d := by
  unfold accNew half0 half1
  pointwise
  rw [scale_apply H m r ν hm]
  refine congrArg (acc (ix2 r d) * (((2 : ℝ) ^ (ν - μ r) : ℝ) : EReal) + ·) ?_
  have hr := r.isLt
  by_cases h0 : r.val < 32
  · rw [dif_pos h0]
    exact out_row H 0 (by omega) ⟨r.val, by omega⟩ _ d r (by show r.val = 64 * 0 + ((r.val)); omega) (by show d.val = 128 * (((r.val)) / 32) + d.val; omega)
  rw [dif_neg h0]
  by_cases h1 : r.val - 32 < 32
  · rw [dif_pos h1]
    exact out_row H 0 (by omega) ⟨32 + (r.val - 32), by omega⟩ _ d r (by show r.val = 64 * 0 + (32 + (r.val - 32)); omega) (by show 128 + d.val = 128 * ((32 + (r.val - 32)) / 32) + d.val; omega)
  rw [dif_neg h1]
  by_cases h2 : r.val - 32 - 32 < 32
  · rw [dif_pos h2]
    exact out_row H 1 (by omega) ⟨r.val - 32 - 32, by omega⟩ _ d r (by show r.val = 64 * 1 + ((r.val - 32 - 32)); omega) (by show d.val = 128 * (((r.val - 32 - 32)) / 32) + d.val; omega)
  rw [dif_neg h2]
  by_cases h3 : r.val - 32 - 32 - 32 < 32
  · rw [dif_pos h3]
    exact out_row H 1 (by omega) ⟨32 + (r.val - 32 - 32 - 32), by omega⟩ _ d r (by show r.val = 64 * 1 + (32 + (r.val - 32 - 32 - 32)); omega) (by show 128 + d.val = 128 * ((32 + (r.val - 32 - 32 - 32)) / 32) + d.val; omega)
  rw [dif_neg h3]
  by_cases h4 : r.val - 32 - 32 - 32 - 32 < 32
  · rw [dif_pos h4]
    exact out_row H 2 (by omega) ⟨r.val - 32 - 32 - 32 - 32, by omega⟩ _ d r (by show r.val = 64 * 2 + ((r.val - 32 - 32 - 32 - 32)); omega) (by show d.val = 128 * (((r.val - 32 - 32 - 32 - 32)) / 32) + d.val; omega)
  rw [dif_neg h4]
  by_cases h5 : r.val - 32 - 32 - 32 - 32 - 32 < 32
  · rw [dif_pos h5]
    exact out_row H 2 (by omega) ⟨32 + (r.val - 32 - 32 - 32 - 32 - 32), by omega⟩ _ d r (by show r.val = 64 * 2 + (32 + (r.val - 32 - 32 - 32 - 32 - 32)); omega) (by show 128 + d.val = 128 * ((32 + (r.val - 32 - 32 - 32 - 32 - 32)) / 32) + d.val; omega)
  rw [dif_neg h5]
  by_cases h6 : r.val - 32 - 32 - 32 - 32 - 32 - 32 < 32
  · rw [dif_pos h6]
    exact out_row H 3 (by omega) ⟨r.val - 32 - 32 - 32 - 32 - 32 - 32, by omega⟩ _ d r (by show r.val = 64 * 3 + ((r.val - 32 - 32 - 32 - 32 - 32 - 32)); omega) (by show d.val = 128 * (((r.val - 32 - 32 - 32 - 32 - 32 - 32)) / 32) + d.val; omega)
  rw [dif_neg h6]
  exact out_row H 3 (by omega) ⟨32 + (r.val - 32 - 32 - 32 - 32 - 32 - 32 - 32), by omega⟩ _ d r (by show r.val = 64 * 3 + (32 + (r.val - 32 - 32 - 32 - 32 - 32 - 32 - 32)); omega) (by show 128 + d.val = 128 * ((32 + (r.val - 32 - 32 - 32 - 32 - 32 - 32 - 32)) / 32) + d.val; omega)

end Sums

end Cert.KernelIdeal.Step

end
-- ==== Proof.Val.Point.lean ====
/- One grid point's effect on the running maximum and the sums: if before it they stand for the tokens seen so far,
   after it they stand for those and the block's 2048 tokens. -/
module

public import proofs.«01_k».proof.Proof.Val.StepValue
public import proofs.«01_k».proof.Proof.Val.New

@[expose] public section

noncomputable section

namespace Cert.KernelIdeal.Step

open Cert.KernelIdeal Cert.KernelIdeal.Gen Idealize.ShloMosaic Idealize.SL.Sem

/-- The weighted total of row `r` after `n` blocks, relative to `μ`: the new tokens the row sees, and the first
    `2048 n` cached ones, each weight times `W`. New token `j` has number `131072 + j`. -/
def total (tl : ℕ → ℕ → ℝ) (W : ℕ → EReal) (r n : ℕ) (μ : ℝ) : EReal :=
  (∑ j ∈ Finset.range (r % 4 + 1), (((2 : ℝ) ^ (tl r (131072 + j) - μ) : ℝ) : EReal) * W (131072 + j)) +
    ∑ t ∈ Finset.range (2048 * n), (((2 : ℝ) ^ (tl r t - μ) : ℝ) : EReal) * W t

/-- Rescaling a total. -/
theorem total_scale (tl : ℕ → ℕ → ℝ) (W : ℕ → EReal) (r n : ℕ) (μ μ' : ℝ) :
    total tl W r n μ * (((2 : ℝ) ^ (μ - μ') : ℝ) : EReal) = total tl W r n μ' := by
  have e : ∀ t, (((2 : ℝ) ^ (tl r t - μ) : ℝ) : EReal) * W t * (((2 : ℝ) ^ (μ - μ') : ℝ) : EReal) =
      (((2 : ℝ) ^ (tl r t - μ') : ℝ) : EReal) * W t := by
    intro t
    rw [mul_right_comm, ← EReal.coe_mul, ← Real.rpow_add (by norm_num)]
    congr 3
    ring
  unfold total
  have hp : (0 : ℝ) ≤ 2 ^ (μ - μ') := by positivity
  rw [EReal.right_distrib_of_nonneg_of_ne_top (by exact_mod_cast hp) (EReal.coe_ne_top _), sum_mul_real _ _ _ hp, sum_mul_real _ _ _ hp]
  simp only [e]

/-- What the running maximum `m`, the lane sums `l` and the weighted sums `a` stand for after `n` blocks. -/
def Inv (tl : ℕ → ℕ → ℝ) (V : ℕ → ℕ → Fin 128 → EReal) (n : ℕ) (m l a : Vec Ideal S256x128 .f32) : Prop :=
  ∃ μ : Fin 256 → ℝ, (∀ r j, m (ix2 r j) = (μ r : EReal)) ∧
    (∀ r : Fin 256, ∑ j : Fin 128, l (ix2 r j) = total tl (fun _ => 1) r n (μ r)) ∧
    ∀ (r : Fin 256) (d : Fin 128), a (ix2 r d) = total tl (fun t => V t (r / 32) d) r n (μ r)

variable {κ : Kind} {sp : Space}

/-- The codes read from a block of bytes `x`: those of the value cache's words. -/
theorem tileV_apply (v : View sig κ sp S4096x128 .i32) (x : IVec S16384x128 8) (chunk quad b : ℕ) (hc : chunk < 8) (hq : quad < 2) (hb : b < 4)
    (p : Fin 256) (d : Fin 128) :
    tile (F := Ideal) (rdW (F := Ideal) v (wordsPiece (k0_pay167 (F := Ideal) x))) chunk quad b (ix2 p d) = code (F := Ideal) x (tok chunk p) (4 * quad + b) d :=
  tile_apply (F := Ideal) v x chunk quad b hc hq hb p d

theorem inv_step (vK vV : View sig κ sp S4096x128 .i32) (vS : View sig κ sp S256x2048 .f32) (x5 x6 : IVec S16384x128 8)
    (rQ : ℕ → Vec Ideal S1x64x256 .bf16) (rC : ℕ → Vec Ideal S64x128 .f32) (K V : ℕ → ℕ → Fin 128 → EReal) (q : ℕ → Fin 128 → EReal) (c : ℕ → EReal)
    (tl : ℕ → ℕ → ℝ) (n : ℕ) (m l a : Vec Ideal S256x128 .f32)
    (hK : ∀ t h d, t < 2048 → h < 8 → code (F := Ideal) x5 t h d = K (2048 * n + t) h d)
    (hV : ∀ t h d, t < 2048 → h < 8 → code (F := Ideal) x6 t h d = V (2048 * n + t) h d)
    (lo : ∀ p, p < 4 → ∀ (i : Fin 64) (k : Fin 128), rQ p (ix3 0 i ⟨k, by omega⟩) = if i.val < 32 then q (64 * p + i) k else 0)
    (hi : ∀ p, p < 4 → ∀ (i : Fin 64) (k : Fin 128), rQ p (ix3 0 i ⟨128 + k, by omega⟩) = if i.val < 32 then 0 else q (64 * p + i) k)
    (fac : ∀ p, p < 4 → ∀ (i : Fin 64) (j : Fin 128), rC p (ix2 i j) = c (64 * p + i))
    (htl : ∀ r t, r < 256 → t < 2048 → logit K q c r (2048 * n + t) = (tl r (2048 * n + t) : EReal))
    (h : Inv tl V n m l a) :
    Inv tl V (n + 1)
      (mNew (F := Ideal) (rdW (F := Ideal) vK (wordsPiece (k0_pay166 (F := Ideal) x5))) rQ rC m)
      (lNew (F := Ideal) (rdS vS (pieces (rdW (F := Ideal) vK (wordsPiece (k0_pay166 (F := Ideal) x5))) rQ rC 8))
        (mNew (F := Ideal) (rdW (F := Ideal) vK (wordsPiece (k0_pay166 (F := Ideal) x5))) rQ rC m) m l)
      (accNew (F := Ideal) (rdW (F := Ideal) vV (wordsPiece (k0_pay167 (F := Ideal) x6)))
        (rdS vS (pieces (rdW (F := Ideal) vK (wordsPiece (k0_pay166 (F := Ideal) x5))) rQ rC 8))
        (mNew (F := Ideal) (rdW (F := Ideal) vK (wordsPiece (k0_pay166 (F := Ideal) x5))) rQ rC m) m a) := by
  obtain ⟨ν, hm, hl, ha⟩ := h
  set rK := rdW (F := Ideal) vK (wordsPiece (k0_pay166 (F := Ideal) x5)) with hrK
  have H : Reads rK rQ rC (fun t h d => K (2048 * n + t) h d) q c :=
    ⟨fun chunk quad b hc hq hb p d => (tile_apply (F := Ideal) vK x5 chunk quad b hc hq hb p d).trans
      (hK _ _ _ (tok_lt hc p.isLt) (by omega)), lo, hi, fac⟩
  have hs : ∀ r t, r < 256 → t < 2048 → logit (fun t h d => K (2048 * n + t) h d) q c r t = ((tl r (2048 * n + t) : ℝ) : EReal) := htl
  have hmn : ∀ r : Fin 256, ∃ μ : ℝ, ∀ j, mNew (F := Ideal) rK rQ rC m (ix2 r j) = (μ : EReal) := fun r =>
    mNew_apply H (fun r t hr ht => ⟨_, hs r t hr ht⟩) m r ⟨ν r, hm r⟩
  choose μ hμ using hmn
  have S : Sums (rdW (F := Ideal) vV (wordsPiece (k0_pay167 (F := Ideal) x6))) (rdS vS (pieces rK rQ rC 8)) (mNew (F := Ideal) rK rQ rC m)
      (fun r t => tl r (2048 * n + t)) (fun r => if h : r < 256 then μ ⟨r, h⟩ else 0) (fun t h d => V (2048 * n + t) h d) :=
    ⟨fun chunk quad b hc hq hb p d => (tileV_apply vV x6 chunk quad b hc hq hb p d).trans (hV _ _ _ (tok_lt hc p.isLt) (by omega)),
     fun p ch h hp hc hh i j => (rdS_apply H vS p ch h hp hc hh i j).trans (hs _ _ (by omega) (tok_lt hc (by have := j.isLt; omega))),
     fun r j => by rw [dif_pos r.isLt]; exact hμ r j⟩
  have add : ∀ (W : ℕ → EReal) (r : Fin 256), total tl W r n (μ r) + ∑ t ∈ Finset.range 2048,
      (wt (fun r t => tl r (2048 * n + t)) (fun r => if h : r < 256 then μ ⟨r, h⟩ else 0) r t : EReal) * W (2048 * n + t) = total tl W r (n + 1) (μ r) := by
    intro W r
    unfold total wt
    rw [show 2048 * (n + 1) = 2048 * n + 2048 by ring, Finset.sum_range_add (fun t => (((2 : ℝ) ^ (tl r t - μ r) : ℝ) : EReal) * W t), ← add_assoc]
    simp only [dif_pos r.isLt, Fin.eta]
  refine ⟨μ, hμ, fun r => ?_, fun r d => ?_⟩
  · rw [lNew_apply S m l r (ν r) (hm r), hl, show (if h : r.val < 256 then μ ⟨r, h⟩ else 0) = μ r by simp, total_scale, ← add]
    simp
  · rw [accNew_apply S m a r (ν r) (hm r) d, ha, show (if h : r.val < 256 then μ ⟨r, h⟩ else 0) = μ r by simp, total_scale, ← add]

end Cert.KernelIdeal.Step

end
-- ==== Proof.Val.NewInt.lean ====
/- The small integers of the new tokens' arrays: which head a row or a column belongs to, and which token. -/
module

public import proofs.«01_k».proof.Proof.Val.StepValue
public import proofs.«01_k».proof.Proof.Val.New

@[expose] public section

set_option maxRecDepth 100000

noncomputable section

namespace Cert.KernelIdeal.Step

open Cert.KernelIdeal Cert.KernelIdeal.Gen Idealize.ShloMosaic Idealize.SL.Sem

/-- Row `u` of the new rows belongs to head `u % 8`. -/
theorem rowHead_apply (u : Fin 32) (d : Fin 128) : k0_pay87 (ix2 u d) = BitVec.ofNat 32 (u % 8) := by
  unfold k0_pay87
  pointwise
  revert u
  decide +kernel

/-- The same rows' heads, as the values' side computes them. -/
theorem rowHead'_apply (u : Fin 32) (d : Fin 128) :
    k0_pay89 (iota .tc S32x128 32 [0] iota_S32x128_d0_w32) 8#32 (ix2 u d) = BitVec.ofNat 32 (u % 8) := by
  unfold k0_pay89
  pointwise
  revert u
  decide +kernel

/-- A column's head. -/
theorem colHead_apply (r : Fin 256) (u : Fin 32) : k0_pay95 (ix2 r u) = BitVec.ofNat 32 (u % 8) := by
  unfold k0_pay95
  pointwise
  revert u
  decide +kernel

/-- A row's head. -/
theorem rowOf_apply (r : Fin 256) (u : Fin 32) : k0_pay96 (ix2 r u) = BitVec.ofNat 32 (r / 32) := by
  unfold k0_pay96
  pointwise
  revert r
  decide +kernel

/-- A column's token. -/
theorem colTok_apply (r : Fin 256) (u : Fin 32) : colTok (ix2 r u) = BitVec.ofNat 32 (u / 8) := by
  unfold colTok
  pointwise
  revert u
  decide +kernel

/-- A row's token. -/
theorem rowTok_apply (r : Fin 256) (u : Fin 32) : rowTok (ix2 r u) = BitVec.ofNat 32 (r % 4) := by
  unfold rowTok
  pointwise
  revert r
  decide +kernel

end Cert.KernelIdeal.Step

end
-- ==== Proof.Val.NewValue.lean ====
/- What the first grid point makes of the new tokens and the last one of the sums, entry by entry on extended reals. -/
module

public import proofs.«01_k».proof.Proof.Val.NewInt
public import proofs.«01_k».proof.Proof.Val.Point

@[expose] public section

set_option maxRecDepth 100000

noncomputable section

namespace Cert.KernelIdeal.Step

open Cert.KernelIdeal Cert.KernelIdeal.Gen Idealize.ShloMosaic Idealize.SL.Sem

/-- A new entry's code: scaled and clipped to the format's range. -/
def clip8 (v s : EReal) : EReal := min ((448 : ℝ) : EReal) (max ((-448 : ℝ) : EReal) (v * Ideal.div 1 s))

theorem clip8_real (v s : EReal) : IsReal (clip8 v s) := by
  have h1 : clip8 v s ≠ ⊤ := ne_of_lt (lt_of_le_of_lt (min_le_left _ _) (EReal.coe_lt_top 448))
  have h2 : clip8 v s ≠ ⊥ := by
    refine ne_of_gt (lt_of_lt_of_le (EReal.bot_lt_coe (-448)) (le_min ?_ (le_max_left _ _)))
    exact EReal.coe_le_coe_iff.mpr (by norm_num)
  exact ⟨(clip8 v s).toReal, (EReal.coe_toReal h1 h2).symm⟩

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_bot : Ideal.ofBits .f32 0xFF800000#32 = ⊥ := by simp [Ideal.ofBits, Ideal.ieee]

/-- Choosing among eight scales by a head's number. -/
theorem pick_scale (sc : ℕ → EReal) (z : EReal) (n : ℕ) (hn : n < 8) :
    Scalar.select (IntOp.cmpi .eq (BitVec.ofNat 32 n) 7#32) (sc 7) (Scalar.select (IntOp.cmpi .eq (BitVec.ofNat 32 n) 6#32) (sc 6)
      (Scalar.select (IntOp.cmpi .eq (BitVec.ofNat 32 n) 5#32) (sc 5) (Scalar.select (IntOp.cmpi .eq (BitVec.ofNat 32 n) 4#32) (sc 4)
      (Scalar.select (IntOp.cmpi .eq (BitVec.ofNat 32 n) 3#32) (sc 3) (Scalar.select (IntOp.cmpi .eq (BitVec.ofNat 32 n) 2#32) (sc 2)
      (Scalar.select (IntOp.cmpi .eq (BitVec.ofNat 32 n) 1#32) (sc 1) (Scalar.select (IntOp.cmpi .eq (BitVec.ofNat 32 n) 0#32) (sc 0) z))))))) = sc n := by
  interval_cases n <;> rfl

/-- Eight bands of 32 rows, each with its own scale. -/
theorem band_scale (sc : ℕ → EReal) (r : ℕ) (hr : r < 256) :
    (if _ : r < 32 then sc 0
      else if _ : r - 32 < 32 then sc 1
      else if _ : r - 32 - 32 < 32 then sc 2
      else if _ : r - 32 - 32 - 32 < 32 then sc 3
      else if _ : r - 32 - 32 - 32 - 32 < 32 then sc 4
      else if _ : r - 32 - 32 - 32 - 32 - 32 < 32 then sc 5
      else if _ : r - 32 - 32 - 32 - 32 - 32 - 32 < 32 then sc 6 else sc 7) = sc (r / 32) := by
  split_ifs <;> congr 1 <;> omega

theorem kCodes_apply (sc : ℕ → EReal) (kn : Vec Ideal S32x128 .bf16) (u : Fin 32) (d : Fin 128) :
    kCodes (F := Ideal) sc kn (ix2 u d) = clip8 (kn (ix2 u d)) (sc (u % 8)) := by
  unfold kCodes k0_pay92 k0_pay88
  pointwise
  rw [rowHead_apply, pick_scale _ _ _ (by omega), ofBits_448, ofBits_neg448]
  rfl

theorem vCodes_apply (sc : ℕ → EReal) (vn : Vec Ideal S32x128 .bf16) (u : Fin 32) (d : Fin 128) :
    vCodes (F := Ideal) sc vn (ix2 u d) = clip8 (vn (ix2 u d)) (sc (u % 8)) := by
  unfold vCodes k0_pay93 k0_pay90 k0_pay91
  pointwise
  rw [rowHead'_apply, pick_scale _ _ _ (by omega), ofBits_448, ofBits_neg448]
  rfl

/-- The softmax scale in base two. -/
def kappa : ℝ := (Real.sqrt 128 * Real.log 2)⁻¹

theorem named_kappa : (Named.named (F := Ideal) (φ := .f32) κ "scale_log2e" 1040356334#32 : EReal) = (kappa : EReal) :=
  IdealRules.named_const.ideal_named_scalar _ _ _ _ rfl

theorem factors_apply (sc : ℕ → EReal) (r : Fin 256) (j : Fin 128) :
    factors (F := Ideal) sc (ix2 r j) = sc (r / 32) * (kappa : EReal) := by
  unfold factors k0_pay86
  pointwise
  rw [band_scale _ _ r.isLt, named_kappa]

/-- The mask's bit: the same head, and a token not after the row's own. -/
theorem mask_bit : ∀ (a b : Fin 8) (s t : Fin 4),
    IntOp.andi (IntOp.cmpi .eq (BitVec.ofNat 32 a) (BitVec.ofNat 32 b)) (IntOp.cmpi .sle (BitVec.ofNat 32 s) (BitVec.ofNat 32 t)) =
      BitVec.ofBool (decide (a.val = b.val ∧ s.val ≤ t.val)) := by
  decide +kernel

theorem select_ofBool {α : Type} (p : Prop) [Decidable p] (x y : α) : Scalar.select (BitVec.ofBool (decide p)) x y = if p then x else y := by
  by_cases h : p <;> simp [h, Scalar.select]

theorem newLogits_apply (q : FVec Ideal S256x128 .bf16) (kc : FVec Ideal S32x128 .fp8e4m3) (c : Vec Ideal S256x32 .f32) (r : Fin 256) (u : Fin 32) :
    newLogits (F := Ideal) q kc c (ix2 r u) =
      if u.val % 8 = r.val / 32 ∧ u.val / 8 ≤ r.val % 4 then (∑ d : Fin 128, q (ix2 r d) * kc (ix2 u d)) * c (ix2 r u) else ⊥ := by
  unfold newLogits k0_pay94
  pointwise
  rw [colHead_apply, rowOf_apply, colTok_apply, rowTok_apply, ofBits_bot,
    mask_bit ⟨u % 8, by omega⟩ ⟨r / 32, by omega⟩ ⟨u / 8, by omega⟩ ⟨r % 4, by omega⟩, select_ofBool]

theorem finish_apply (sc : ℕ → EReal) (l acc : Vec Ideal S256x128 .f32) (r : Fin 256) (d : Fin 128) :
    finish (F := Ideal) sc l acc (ix2 r d) = Ideal.div (acc (ix2 r d) * sc (r / 32)) (∑ j : Fin 128, l (ix2 r j)) := by
  unfold finish k0_pay98
  pointwise
  rw [band_scale _ _ r.isLt]

/-- The new tokens a row sees, one column each. -/
theorem sum_new (G : ℕ → EReal) (r : ℕ) (hr : r < 256) :
    (∑ u : Fin 32, if u.val % 8 = r / 32 ∧ u.val / 8 ≤ r % 4 then G (u / 8) else 0) = ∑ j ∈ Finset.range (r % 4 + 1), G j := by
  rw [← Finset.sum_filter]
  refine Finset.sum_bij' (fun u _ => u.val / 8) (fun j hj => ⟨8 * j + r / 32, by simp only [Finset.mem_range] at hj; omega⟩) ?_ ?_ ?_ ?_ ?_
  · intro u hu; simp only [Finset.mem_filter, Finset.mem_range] at *; omega
  · intro j hj
    have hj' := Finset.mem_range.mp hj
    refine Finset.mem_filter.mpr ⟨Finset.mem_univ _, ?_, ?_⟩
    · show (8 * j + r / 32) % 8 = r / 32; omega
    · show (8 * j + r / 32) / 8 ≤ r % 4; omega
  · intro u hu; simp only [Finset.mem_filter] at hu; apply Fin.ext; show 8 * (u.val / 8) + r / 32 = u.val; omega
  · intro j hj; simp only [Finset.mem_range] at hj; show (8 * j + r / 32) / 8 = j; omega
  · intro u hu; rfl

/-- The largest new logit of a row. -/
theorem newMax_apply (L : FVec Ideal S256x32 .f32) (r : Fin 256) (j : Fin 1) :
    k0_pay161 (F := Ideal) L (ix2 r j) = Finset.univ.fold max ⊥ (fun u : Fin 32 => L (ix2 r u)) := by
  unfold k0_pay161
  pointwise
  rw [ofBits_bot]

theorem newMax'_apply (L : FVec Ideal S256x32 .f32) (r : Fin 256) (j : Fin 128) :
    k0_pay163 (F := Ideal) L (ix2 r j) = k0_pay161 (F := Ideal) L (ix2 r 0) := by
  unfold k0_pay163
  pointwise

/-- A new token's weight. -/
theorem newExp_apply (L : FVec Ideal S256x32 .f32) (r : Fin 256) (u : Fin 32) :
    k0_pay162 (F := Ideal) L (ix2 r u) = Ideal.exp2 (L (ix2 r u) - k0_pay161 (F := Ideal) L (ix2 r 0)) := by
  unfold k0_pay162
  pointwise
  rfl

theorem newSum_apply (L : FVec Ideal S256x32 .f32) (r : Fin 256) (j : Fin 128) :
    k0_pay164 (F := Ideal) L (ix2 r j) = if j.val = 0 then ∑ u : Fin 32, k0_pay162 (F := Ideal) L (ix2 r u) else 0 := by
  unfold k0_pay164
  pointwise
  rw [show IntOp.cmpi .eq (BitVec.ofNat 32 j.val) 0#32 = BitVec.ofBool (decide (j.val = 0)) by revert j; decide +kernel, select_ofBool]

theorem newAcc_apply (vc : FVec Ideal S32x128 .fp8e4m3) (L : FVec Ideal S256x32 .f32) (r : Fin 256) (d : Fin 128) :
    k0_pay165 (F := Ideal) vc L (ix2 r d) = ∑ u : Fin 32, k0_pay162 (F := Ideal) L (ix2 r u) * vc (ix2 u d) := by
  unfold k0_pay165
  pointwise

/-- Before the first block the running maximum and the sums stand for the new tokens alone. -/
theorem inv_zero (tl : ℕ → ℕ → ℝ) (V : ℕ → ℕ → Fin 128 → EReal) (L : FVec Ideal S256x32 .f32) (vc : FVec Ideal S32x128 .fp8e4m3)
    (hL : ∀ (r : Fin 256) (u : Fin 32), L (ix2 r u) = if u.val % 8 = r.val / 32 ∧ u.val / 8 ≤ r.val % 4 then (tl r (131072 + u / 8) : EReal) else ⊥)
    (hV : ∀ (u : Fin 32) (d : Fin 128), vc (ix2 u d) = V (131072 + u / 8) (u % 8) d) :
    Inv tl V 0 (k0_pay163 (F := Ideal) L) (k0_pay164 (F := Ideal) L) (k0_pay165 (F := Ideal) vc L) := by
  have hm : ∀ r : Fin 256, ∃ μ : ℝ, k0_pay161 (F := Ideal) L (ix2 r 0) = μ := by
    intro r
    rw [newMax_apply]
    refine isReal_fold_max ⟨⟨r / 32, by omega⟩, Finset.mem_univ _, ?_⟩ fun u _ => ?_
    · rw [hL, if_pos (by dsimp only; omega)]
      exact isReal_coe _
    · rw [hL]
      split_ifs
      · exact EReal.coe_ne_top _
      · exact bot_ne_top
  choose μ hμ using hm
  have he : ∀ (r : Fin 256) (u : Fin 32), k0_pay162 (F := Ideal) L (ix2 r u) =
      if u.val % 8 = r.val / 32 ∧ u.val / 8 ≤ r.val % 4 then (((2 : ℝ) ^ (tl r (131072 + u / 8) - μ r) : ℝ) : EReal) else 0 := by
    intro r u
    rw [newExp_apply, hμ, hL]
    split_ifs
    · exact exp2_sub _ _
    · rw [EReal.bot_sub]
      exact Ideal.exp2_bot
  refine ⟨μ, fun r j => by rw [newMax'_apply, hμ], fun r => ?_, fun r d => ?_⟩
  · have e : ∑ j : Fin 128, k0_pay164 (F := Ideal) L (ix2 r j) = ∑ u : Fin 32, k0_pay162 (F := Ideal) L (ix2 r u) := by
      rw [Finset.sum_eq_single (0 : Fin 128)]
      · rw [newSum_apply]; rfl
      · intro j _ hj
        exact (newSum_apply L r j).trans (if_neg fun h => hj (Fin.ext h))
      · simp
    rw [e]
    simp only [he, total]
    rw [sum_new (fun j => (((2 : ℝ) ^ (tl r (131072 + j) - μ r) : ℝ) : EReal)) r r.isLt]
    simp
  · rw [newAcc_apply]
    have e : ∀ u : Fin 32, k0_pay162 (F := Ideal) L (ix2 r u) * vc (ix2 u d) =
        if u.val % 8 = r.val / 32 ∧ u.val / 8 ≤ r.val % 4 then
          (((2 : ℝ) ^ (tl r (131072 + u / 8) - μ r) : ℝ) : EReal) * V (131072 + u / 8) (r / 32) d else 0 := by
      intro u
      rw [he, hV]
      split_ifs with h
      · rw [h.1]
      · rw [zero_mul]
    simp only [e, total]
    rw [sum_new (fun j => (((2 : ℝ) ^ (tl r (131072 + j) - μ r) : ℝ) : EReal) * V (131072 + j) (r / 32) d) r r.isLt]
    simp

end Cert.KernelIdeal.Step

end
-- ==== Proof.Val.Layout.lean ====
/- What is read from the buffers: whole arrays, single entries, and the query scratch's bands. -/
module

public import proofs.«01_k».proof.Proof.Val.StepValue
public import proofs.«01_k».proof.Proof.Val.New
public import Idealize.ShloMosaic.Lib.Pipeline.CanonAppend

@[expose] public section

set_option maxRecDepth 100000

noncomputable section

namespace Cert.KernelIdeal.Step

open Cert.KernelIdeal Cert.KernelIdeal.Gen Idealize.ShloMosaic Idealize.SL.Sem

section Any

variable {F : FTy → Type} [FloatOps F] [Named F] {κ : Kind} {sp : Space}

theorem idx_unit {s : Shape} {off size : Fin s.rank → ℕ} (inb : ∀ a, off a + size a ≤ s.size a) (x : (Rect.unit off size inb).shape.Idx)
    (y : s.Idx) (h : ∀ a, (y a).val = off a + (x a).val) : (Rect.unit off size inb).toLoadRect.idx x = y :=
  funext fun a => Fin.ext ((emb_unit inb x a).trans (h a).symm)

/-- Entry `n` of a buffer of scales. -/
theorem rdN_apply (v : View sig κ sp S8 .f32) (f : v.ty.Contents (Elt F)) (n : ℕ) (h : n < 8) :
    rdN (F := F) v f n = v.read (Elt F) f (ix1 ⟨n, h⟩) := by
  unfold rdN
  rw [dif_pos h, View.readAt_apply]
  refine congrArg _ (idx_unit _ _ _ fun a => ?_)
  fin_cases a
  rfl

/-- Query head `n`. -/
theorem rdX_apply (v : View sig κ sp S4x8192 .bf16) (f : v.ty.Contents (Elt F)) (n : ℕ) (h : n < 64) (s : Fin 4) (d : Fin 128) :
    rdX (F := F) v f n (ix2 s d) = v.read (Elt F) f (ix2 s ⟨128 * n + d, by omega⟩) := by
  unfold rdX
  rw [dif_pos h, View.readAt_apply]
  refine congrArg _ (idx_unit _ _ _ fun a => ?_)
  fin_cases a
  · simp
  · rfl

/-- Pair `p`'s queries. -/
theorem rdQ_apply (v : View sig κ sp S4x64x256 .bf16) (f : v.ty.Contents (Elt F)) (p : ℕ) (h : p < 4) (i : Fin 64) (k : Fin 256) :
    rdQ (F := F) v f p (ix3 0 i k) = v.read (Elt F) f (ix3 ⟨p, h⟩ i k) := by
  unfold rdQ
  rw [dif_pos h, View.readAt_apply]
  refine congrArg _ (idx_unit _ _ _ fun a => ?_)
  fin_cases a
  · simp
  · simp
  · simp

/-- Pair `p`'s factors. -/
theorem rdC_apply (v : View sig κ sp S256x128 .f32) (f : v.ty.Contents (Elt F)) (p : ℕ) (h : p < 4) (i : Fin 64) (j : Fin 128) :
    rdC (F := F) v f p (ix2 i j) = v.read (Elt F) f (ix2 ⟨64 * p + i, by omega⟩ j) := by
  unfold rdC
  rw [dif_pos h, View.readAt_apply]
  refine congrArg _ (idx_unit _ _ _ fun a => ?_)
  fin_cases a
  · rfl
  · simp

end Any

variable {κ : Kind} {sp : Space}

theorem qPieces_mem (rX : ℕ → Vec Ideal S4x128 .bf16) (n : ℕ) (hn : n ≤ 64) :
    ∀ pc ∈ qPieces (F := Ideal) rX n, ∀ x : pc.1.shape.Idx,
      pc.2 x = (fun y : S256x128.Idx => rX ((y 0).val / 4) (ix2 ⟨(y 0).val % 4, by omega⟩ (y 1))) (pc.1.emb x) := by
  induction n with
  | zero => intro pc hpc; simp [qPieces] at hpc
  | succ n ih =>
    intro pc hpc x
    unfold qPieces at hpc
    rw [dif_pos (by omega)] at hpc
    rcases List.mem_cons.mp hpc with rfl | hpc
    · dsimp only
      rw [shapeCast_self, shapeCast_self]
      have h0 := emb_unit (s := S256x128) (off := ![4 * n, 0]) (size := S4x128.size) (by intro a; fin_cases a <;> simp; omega) x 0
      have h1 := emb_unit (s := S256x128) (off := ![4 * n, 0]) (size := S4x128.size) (by intro a; fin_cases a <;> simp; omega) x 1
      have hx : (x 0).val < 4 := (x 0).isLt
      simp only [Matrix.cons_val_zero, Matrix.cons_val_one] at h0 h1
      show rX n x = _
      rw [show (((Rect.unit (s := S256x128) ![4 * n, 0] S4x128.size (by intro a; fin_cases a <;> simp; omega)).emb x 0).val) / 4 = n by rw [h0]; omega]
      congr 1
      funext a
      fin_cases a
      · exact Fin.ext (by show (x 0).val = _ % 4; rw [h0]; omega)
      · exact Fin.ext (by show (x 1).val = (Rect.emb _ x 1).val; rw [h1]; omega)
    · exact ih (by omega) pc hpc x

theorem qPieces_cover (rX : ℕ → Vec Ideal S4x128 .bf16) (n : ℕ) (hn : n ≤ 64) (y : S256x128.Idx) (hy : (y 0).val < 4 * n) :
    ∃ pc ∈ qPieces (F := Ideal) rX n, y ∈ pc.1.set := by
  induction n with
  | zero => omega
  | succ n ih =>
    unfold qPieces
    rw [dif_pos (by omega)]
    by_cases h : (y 0).val < 4 * n
    · obtain ⟨pc, h1, h2⟩ := ih (by omega) h
      exact ⟨pc, List.mem_cons_of_mem _ h1, h2⟩
    · refine ⟨_, List.mem_cons_self, ?_⟩
      have h0 : (y 1).val < 128 := (y 1).isLt
      rw [Rect.mem_set_unit]
      intro a
      fin_cases a
      · exact ⟨by show 4 * n ≤ (y 0).val; omega, by show (y 0).val < 4 * n + 4; omega⟩
      · exact ⟨Nat.zero_le _, by show (y 1).val < 0 + 128; omega⟩

/-- The queries, one row per head and token. -/
theorem queries_apply (v : View sig κ sp S256x128 .f32) (rX : ℕ → Vec Ideal S4x128 .bf16) (r : Fin 256) (d : Fin 128) :
    queries (F := Ideal) v rX (ix2 r d) = rX (r / 4) (ix2 ⟨r % 4, by omega⟩ d) := by
  show v.readCov (qPieces rX 64) (Rect.unit (s := S256x128) ![0, 0] S256x128.size inb_S256x128_S256x128_0_0).toLoadRect (ix2 r d) = _
  rw [View.readCov_eq_canon']
  have hi : (Rect.unit (s := S256x128) ![0, 0] S256x128.size inb_S256x128_S256x128_0_0).toLoadRect.idx (ix2 r d) = ix2 r d :=
    idx_unit _ _ _ fun a => by fin_cases a <;> simp
  exact (congrArg _ hi).trans (View.canon_apply_of_pieces
    (fun y : S256x128.Idx => rX ((y 0).val / 4) (ix2 ⟨(y 0).val % 4, by omega⟩ (y 1))) _ (qPieces_mem rX 64 le_rfl) _ (qPieces_cover rX 64 le_rfl _ r.isLt))

/-- What the scratch of paired queries holds: each head's rows in its own half, zeros in the other. -/
def IsQbd (X : Vec Ideal S4x64x256 .bf16) (q : ℕ → Fin 128 → EReal) : Prop :=
  ∀ (p : Fin 4) (i : Fin 64) (k : Fin 128),
    X (ix3 p i ⟨k, by omega⟩) = (if i.val < 32 then q (64 * p + i) k else 0) ∧
    X (ix3 p i ⟨128 + k, by omega⟩) = (if i.val < 32 then 0 else q (64 * p + i) k)

/-- The eight bands of the paired queries. -/
theorem qbd_band (q : FVec Ideal S256x128 .bf16) (o : ℕ) (hs) (ho : o + 32 ≤ 256)
    (x : S1x32x128.Idx) : shapeCast S1x32x128 (extractStridedSlice S32x128 ![o, 0] q hs) shapeCasts_S32x128_S1x32x128 x =
      q (ix2 ⟨o + (x 1).val, by have : (x 1).val < 32 := (x 1).isLt; omega⟩ (x 2)) := by
  obtain ⟨a, i, j, rfl⟩ : ∃ (a : Fin 1) (i : Fin 32) (j : Fin 128), x = ix3 a i j := ⟨x 0, x 1, x 2, eq_ix3 x⟩
  pointwise

/-- Where the paired queries come from. -/
def qbdG (q : FVec Ideal S256x128 .bf16) : S4x64x256.Idx → EReal := fun y =>
  if (y 1).val / 32 = (y 2).val / 128 then q (ix2 ⟨64 * (y 0).val + (y 1).val, by
    have h0 : (y 0).val < 4 := (y 0).isLt
    have h1 : (y 1).val < 64 := (y 1).isLt
    omega⟩ ⟨(y 2).val % 128, by omega⟩) else 0

theorem qbd_mem (q : FVec Ideal S256x128 .bf16) :
    ∀ pc ∈ (qbdPieces (F := Ideal) q).take 8, ∀ x : pc.1.shape.Idx, pc.2 x = qbdG q (pc.1.emb x) := by
  have key : ∀ (p b o i j : ℕ) (hp : p < 4) (hb : b < 2) (ho : o = 64 * p + 32 * b) (h32 : i = 32 * b) (h128 : j = 128 * b) (inb : ∀ a, (![p, i, j] : Fin 3 → ℕ) a + S1x32x128.size a ≤ S4x64x256.size a) (hs)
      (x : S1x32x128.Idx), shapeCast S1x32x128 (extractStridedSlice S32x128 ![o, 0] q hs) shapeCasts_S32x128_S1x32x128 x =
        qbdG q ((Rect.unit (s := S4x64x256) ![p, i, j] S1x32x128.size inb).emb x) := by
    intro p b o i j hp hb ho h32 h128 inb hs x
    subst ho h32 h128
    have e0 : ((Rect.unit (s := S4x64x256) ![p, 32 * b, 128 * b] S1x32x128.size inb).emb x 0).val = p + (x 0).val :=
      emb_unit (s := S4x64x256) (off := ![p, 32 * b, 128 * b]) (size := S1x32x128.size) inb x 0
    have e1 : ((Rect.unit (s := S4x64x256) ![p, 32 * b, 128 * b] S1x32x128.size inb).emb x 1).val = 32 * b + (x 1).val :=
      emb_unit (s := S4x64x256) (off := ![p, 32 * b, 128 * b]) (size := S1x32x128.size) inb x 1
    have e2 : ((Rect.unit (s := S4x64x256) ![p, 32 * b, 128 * b] S1x32x128.size inb).emb x 2).val = 128 * b + (x 2).val :=
      emb_unit (s := S4x64x256) (off := ![p, 32 * b, 128 * b]) (size := S1x32x128.size) inb x 2
    have h0 : (x 0).val < 1 := (x 0).isLt
    have h1 : (x 1).val < 32 := (x 1).isLt
    have h2 : (x 2).val < 128 := (x 2).isLt
    rw [qbd_band q _ _ (by omega), qbdG, if_pos (by rw [e1, e2]; omega)]
    congr 1
    funext a
    fin_cases a
    · exact Fin.ext (by show 64 * p + 32 * b + (x 1).val = 64 * ((Rect.unit (s := S4x64x256) ![p, 32 * b, 128 * b] S1x32x128.size inb).emb x 0).val + ((Rect.unit (s := S4x64x256) ![p, 32 * b, 128 * b] S1x32x128.size inb).emb x 1).val; rw [e0, e1]; omega)
    · exact Fin.ext (by show (x 2).val = ((Rect.unit (s := S4x64x256) ![p, 32 * b, 128 * b] S1x32x128.size inb).emb x 2).val % 128; rw [e2]; omega)
  intro pc hpc x
  simp only [qbdPieces, List.take_succ_cons, List.take_zero, List.mem_cons, List.not_mem_nil, or_false] at hpc
  rcases hpc with rfl | rfl | rfl | rfl | rfl | rfl | rfl | rfl
  · exact key 3 1 224 32 128 (by omega) (by omega) rfl rfl rfl inb_S4x64x256_S1x32x128_3_32_128 slices_S256x128_o224_0_S32x128 x
  · exact key 3 0 192 0 0 (by omega) (by omega) rfl rfl rfl inb_S4x64x256_S1x32x128_3_0_0 slices_S256x128_o192_0_S32x128 x
  · exact key 2 1 160 32 128 (by omega) (by omega) rfl rfl rfl inb_S4x64x256_S1x32x128_2_32_128 slices_S256x128_o160_0_S32x128 x
  · exact key 2 0 128 0 0 (by omega) (by omega) rfl rfl rfl inb_S4x64x256_S1x32x128_2_0_0 slices_S256x128_o128_0_S32x128 x
  · exact key 1 1 96 32 128 (by omega) (by omega) rfl rfl rfl inb_S4x64x256_S1x32x128_1_32_128 slices_S256x128_o96_0_S32x128 x
  · exact key 1 0 64 0 0 (by omega) (by omega) rfl rfl rfl inb_S4x64x256_S1x32x128_1_0_0 slices_S256x128_o64_0_S32x128 x
  · exact key 0 1 32 32 128 (by omega) (by omega) rfl rfl rfl inb_S4x64x256_S1x32x128_0_32_128 slices_S256x128_o32_0_S32x128 x
  · exact key 0 0 0 0 0 (by omega) (by omega) rfl rfl rfl inb_S4x64x256_S1x32x128_0_0_0 slices_S256x128_o0_0_S32x128 x

/-- Stores that do not reach an element leave it to the earlier ones. -/
theorem canon_skip {s : Shape} {e : EltTy} (L L' : List (View.Piece (Elt Ideal) s e)) (y : s.Idx) (h : ∀ pc ∈ L, y ∉ pc.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

/-- The zeros stored first agree with it off the bands, so it is what the scratch holds. -/
theorem qbd_canon (q : FVec Ideal S256x128 .bf16) (y : S4x64x256.Idx) : View.canon (qbdPieces (F := Ideal) q) y = qbdG q y := by
  have h0 : (y 0).val < 4 := (y 0).isLt
  have h1 : (y 1).val < 64 := (y 1).isLt
  have h2 : (y 2).val < 256 := (y 2).isLt
  have hset : ∀ (p b i j : ℕ) (h32 : i = 32 * b) (h128 : j = 128 * b) (inb : ∀ a, (![p, i, j] : Fin 3 → ℕ) a + S1x32x128.size a ≤ S4x64x256.size a),
      y ∈ (Rect.unit (s := S4x64x256) ![p, i, j] S1x32x128.size inb).set ↔ (y 0).val = p ∧ (y 1).val / 32 = b ∧ (y 2).val / 128 = b := by
    intro p b i j h32 h128 inb
    subst h32 h128
    rw [Rect.mem_set_unit]
    constructor
    · intro h
      have a0 := h 0
      have a1 := h 1
      have a2 := h 2
      change p ≤ (y 0).val ∧ (y 0).val < p + 1 at a0
      change 32 * b ≤ (y 1).val ∧ (y 1).val < 32 * b + 32 at a1
      change 128 * b ≤ (y 2).val ∧ (y 2).val < 128 * b + 128 at a2
      omega
    · rintro ⟨a0, a1, a2⟩ a
      fin_cases a
      · show p ≤ (y 0).val ∧ (y 0).val < p + 1; omega
      · show 32 * b ≤ (y 1).val ∧ (y 1).val < 32 * b + 32; omega
      · show 128 * b ≤ (y 2).val ∧ (y 2).val < 128 * b + 128; omega
  have off : ∀ (p b i j : ℕ) (h32 : i = 32 * b) (h128 : j = 128 * b) (inb : ∀ a, (![p, i, j] : Fin 3 → ℕ) a + S1x32x128.size a ≤ S4x64x256.size a),
      y ∈ (Rect.unit (s := S4x64x256) ![p, i, j] S1x32x128.size inb).set → (y 1).val / 32 = (y 2).val / 128 := by
    intro p b i j h32 h128 inb m
    have := (hset p b i j h32 h128 inb).mp m
    omega
  have happ : qbdPieces (F := Ideal) q = (qbdPieces (F := Ideal) q).take 8 ++ (qbdPieces (F := Ideal) q).drop 8 := (List.take_append_drop 8 _).symm
  by_cases h : (y 1).val / 32 = (y 2).val / 128
  · rw [happ]
    refine View.canon_append_of_pieces (Val := Elt Ideal) (S := S4x64x256) (e := .bf16) (qbdG q) _ ((qbdPieces (F := Ideal) q).take 8) (qbd_mem q) y ?_
    have h4 : (y 0).val = 0 ∨ (y 0).val = 1 ∨ (y 0).val = 2 ∨ (y 0).val = 3 := by omega
    have h5 : (y 1).val / 32 = 0 ∨ (y 1).val / 32 = 1 := by omega
    simp only [qbdPieces, List.take_succ_cons, List.take_zero, List.mem_cons, List.not_mem_nil, or_false, exists_eq_or_imp, exists_eq_left]
    rcases h4 with h4 | h4 | h4 | h4 <;> rcases h5 with h5 | h5
    · iterate 7 right
      exact (hset 0 0 0 0 rfl rfl _).mpr (by omega)
    · iterate 6 right
      left; exact (hset 0 1 32 128 rfl rfl _).mpr (by omega)
    · iterate 5 right
      left; exact (hset 1 0 0 0 rfl rfl _).mpr (by omega)
    · iterate 4 right
      left; exact (hset 1 1 32 128 rfl rfl _).mpr (by omega)
    · iterate 3 right
      left; exact (hset 2 0 0 0 rfl rfl _).mpr (by omega)
    · iterate 2 right
      left; exact (hset 2 1 32 128 rfl rfl _).mpr (by omega)
    · iterate 1 right
      left; exact (hset 3 0 0 0 rfl rfl _).mpr (by omega)
    · left; exact (hset 3 1 32 128 rfl rfl _).mpr (by omega)
  · rw [qbdG, if_neg h]
    have hn : ∀ pc ∈ (qbdPieces (F := Ideal) q).take 8, y ∉ pc.1.set := by
      intro pc hpc m
      simp only [qbdPieces, List.take_succ_cons, List.take_zero, List.mem_cons, List.not_mem_nil, or_false] at hpc
      rcases hpc with rfl | rfl | rfl | rfl | rfl | rfl | rfl | rfl
      · exact h (off 3 1 32 128 rfl rfl inb_S4x64x256_S1x32x128_3_32_128 m)
      · exact h (off 3 0 0 0 rfl rfl inb_S4x64x256_S1x32x128_3_0_0 m)
      · exact h (off 2 1 32 128 rfl rfl inb_S4x64x256_S1x32x128_2_32_128 m)
      · exact h (off 2 0 0 0 rfl rfl inb_S4x64x256_S1x32x128_2_0_0 m)
      · exact h (off 1 1 32 128 rfl rfl inb_S4x64x256_S1x32x128_1_32_128 m)
      · exact h (off 1 0 0 0 rfl rfl inb_S4x64x256_S1x32x128_1_0_0 m)
      · exact h (off 0 1 32 128 rfl rfl inb_S4x64x256_S1x32x128_0_32_128 m)
      · exact h (off 0 0 0 0 rfl rfl inb_S4x64x256_S1x32x128_0_0_0 m)
    rw [happ, canon_skip _ _ _ hn]
    show View.canon (Val := Elt Ideal) [(⟨Rect.unit ![0, 0, 0] S4x64x256.size inb_S4x64x256_S4x64x256_0_0_0,
      shapeCast S4x64x256 (broadcast S4x64x256 (Scalar.ofBits .bf16 0x0000#16 : Ideal .bf16) : Vec Ideal S4x64x256 .bf16) shapeCasts_S4x64x256_S4x64x256⟩ : View.Piece (Elt Ideal) S4x64x256 .bf16)] y = 0
    rw [View.canon_unit_zero (by funext a; fin_cases a <;> rfl), shapeCast_self]
    show Ideal.ofBits .bf16 0x0000#16 = 0
    simp [Ideal.ofBits, Ideal.ieee]

/-- So the scratch holds the pairs of heads it should. -/
theorem isQbd_canon (q : FVec Ideal S256x128 .bf16) (Q : ℕ → Fin 128 → EReal) (hq : ∀ (r : Fin 256) (d : Fin 128), q (ix2 r d) = Q r d) :
    IsQbd (View.canon (qbdPieces (F := Ideal) q)) Q := by
  intro p i k
  have hk := k.isLt
  have hi := i.isLt
  constructor
  · rw [qbd_canon]
    show (if i.val / 32 = k.val / 128 then q (ix2 ⟨64 * p.val + i.val, _⟩ ⟨k.val % 128, _⟩) else 0) = _
    by_cases h : i.val < 32
    · rw [if_pos (by omega), if_pos h, hq]
      exact congrArg _ (Fin.ext (by show k.val % 128 = k.val; omega))
    · rw [if_neg (by omega), if_neg h]
  · rw [qbd_canon]
    show (if i.val / 32 = (128 + k.val) / 128 then q (ix2 ⟨64 * p.val + i.val, _⟩ ⟨(128 + k.val) % 128, _⟩) else 0) = _
    by_cases h : i.val < 32
    · rw [if_neg (by omega), if_pos h]
    · rw [if_pos (by omega), if_neg h, hq]
      exact congrArg _ (Fin.ext (by show (128 + k.val) % 128 = k.val; omega))

/-- A whole buffer's load is its contents. -/
theorem readWhole2 {F : FTy → Type} [FloatOps F] [Named F] {κ : Kind} {sp : Space} {a b : ℕ} {e : EltTy} {M : Memref sig κ sp ⟨2, ![a, b]⟩ e} (h : M.IsWhole)
    (X : Vec F ⟨2, ![a, b]⟩ e) (inb : ∀ i, (![0, 0] : Fin 2 → ℕ) i + (⟨2, ![a, b]⟩ : Shape).size i ≤ (⟨2, ![a, b]⟩ : Shape).size i) :
    View.readAt (Elt F) M.view (Rect.unit (s := ⟨2, ![a, b]⟩) ![0, 0] (⟨2, ![a, b]⟩ : Shape).size inb).toLoadRect (h.unread X) = X := by
  funext x
  rw [View.readAt_apply, Memref.IsWhole.read_unread]
  exact congrArg X (idx_unit inb x x fun i => by fin_cases i <;> simp)

theorem yPieces_mem (v : View sig κ sp S256x128 .f32) (Y : FVec Ideal S256x128 .f32) (n : ℕ) (hn : n ≤ 64) :
    ∀ pc ∈ yPieces (F := Ideal) v [⟨Rect.unit ![0, 0] S256x128.size inb_S256x128_S256x128_0_0, Y⟩] n, ∀ x : pc.1.shape.Idx,
      pc.2 x = (fun y : S4x8192.Idx => Y (ix2 ⟨4 * ((y 1).val / 128) + (y 0).val, by
        have h0 : (y 0).val < 4 := (y 0).isLt
        have h1 : (y 1).val < 8192 := (y 1).isLt
        omega⟩ ⟨(y 1).val % 128, by omega⟩)) (pc.1.emb x) := by
  induction n with
  | zero => intro pc hpc; simp [yPieces] at hpc
  | succ n ih =>
    intro pc hpc x
    unfold yPieces at hpc
    rw [dif_pos (by omega)] at hpc
    rcases List.mem_cons.mp hpc with rfl | hpc
    · have inb : ∀ a, (![0, 128 * n] : Fin 2 → ℕ) a + S4x128.size a ≤ S4x8192.size a := by intro a; fin_cases a <;> simp; omega
      have inb' : ∀ a, (![4 * n, 0] : Fin 2 → ℕ) a + S4x128.size a ≤ S256x128.size a := by intro a; fin_cases a <;> simp; omega
      have h0 : ((Rect.unit (s := S4x8192) ![0, 128 * n] S4x128.size inb).emb x 0).val = 0 + (x 0).val :=
        emb_unit (s := S4x8192) (off := ![0, 128 * n]) (size := S4x128.size) inb x 0
      have h1 : ((Rect.unit (s := S4x8192) ![0, 128 * n] S4x128.size inb).emb x 1).val = 128 * n + (x 1).val :=
        emb_unit (s := S4x8192) (off := ![0, 128 * n]) (size := S4x128.size) inb x 1
      have hx0 : (x 0).val < 4 := (x 0).isLt
      have hx1 : (x 1).val < 128 := (x 1).isLt
      show v.readCov [(⟨Rect.unit ![0, 0] S256x128.size inb_S256x128_S256x128_0_0, Y⟩ : View.Piece (Elt Ideal) S256x128 .f32)]
        (Rect.unit (s := S256x128) ![4 * n, 0] S4x128.size inb').toLoadRect x = _
      rw [View.readCov_eq_canon', View.canon_unit_zero (by funext a; fin_cases a <;> rfl)]
      refine congrArg Y (idx_unit (s := S256x128) (off := ![4 * n, 0]) (size := S4x128.size) inb' x _ fun a => ?_)
      fin_cases a
      · show 4 * (((Rect.unit (s := S4x8192) ![0, 128 * n] S4x128.size inb).emb x 1).val / 128) + ((Rect.unit (s := S4x8192) ![0, 128 * n] S4x128.size inb).emb x 0).val = 4 * n + (x 0).val
        rw [h0, h1]; omega
      · show ((Rect.unit (s := S4x8192) ![0, 128 * n] S4x128.size inb).emb x 1).val % 128 = 0 + (x 1).val
        rw [h1]; omega
    · exact ih (by omega) pc hpc x

theorem yPieces_cover (v : View sig κ sp S256x128 .f32) (L : List (View.Piece (Elt Ideal) S256x128 .f32)) (n : ℕ) (hn : n ≤ 64) (y : S4x8192.Idx)
    (hy : (y 1).val < 128 * n) : ∃ pc ∈ yPieces (F := Ideal) v L n, y ∈ pc.1.set := by
  induction n with
  | zero => omega
  | succ n ih =>
    unfold yPieces
    rw [dif_pos (by omega)]
    by_cases h : (y 1).val < 128 * n
    · obtain ⟨pc, h1, h2⟩ := ih (by omega) h
      exact ⟨pc, List.mem_cons_of_mem _ h1, h2⟩
    · refine ⟨_, List.mem_cons_self, ?_⟩
      have h0 : (y 0).val < 4 := (y 0).isLt
      rw [Rect.mem_set_unit]
      intro a
      fin_cases a
      · exact ⟨Nat.zero_le _, by show (y 0).val < 0 + 4; omega⟩
      · exact ⟨by show 128 * n ≤ (y 1).val; omega, by show (y 1).val < 128 * n + 128; omega⟩

/-- What the output holds: the final rows, one head after another. -/
theorem y_canon (v : View sig κ sp S256x128 .f32) (Y : FVec Ideal S256x128 .f32) (s : Fin 4) (h : Fin 64) (d : Fin 128) :
    View.canon (yPieces (F := Ideal) v [⟨Rect.unit ![0, 0] S256x128.size inb_S256x128_S256x128_0_0, Y⟩] 64) (ix2 s ⟨128 * h + d, by omega⟩) =
      Y (ix2 ⟨4 * h + s, by omega⟩ d) := by
  refine (View.canon_apply_of_pieces (fun y : S4x8192.Idx => Y (ix2 ⟨4 * ((y 1).val / 128) + (y 0).val, by
        have h0 : (y 0).val < 4 := (y 0).isLt
        have h1 : (y 1).val < 8192 := (y 1).isLt
        omega⟩ ⟨(y 1).val % 128, by omega⟩)) _ (yPieces_mem v Y 64 le_rfl) _ (yPieces_cover v _ 64 le_rfl _ (Fin.isLt _))).trans ?_
  have hd := d.isLt
  refine congrArg Y (funext fun a => ?_)
  fin_cases a
  · exact Fin.ext (by show 4 * ((128 * h.val + d.val) / 128) + s.val = 4 * h.val + s.val; omega)
  · exact Fin.ext (by show (128 * h.val + d.val) % 128 = d.val; omega)

end Cert.KernelIdeal.Step

end
-- ==== Proof.Val.Points.lean ====
/- One grid point's effect, case by case: the first point writes the new tokens' codes, the queries and the factors and
   starts the sums; a later point continues the sums; the last one also divides and writes the output. -/
module

public import proofs.«01_k».proof.Proof.Run.Frame
public import proofs.«01_k».proof.Proof.Val.BridgeA
public import proofs.«01_k».proof.Proof.Val.BridgeB
public import proofs.«01_k».proof.Proof.Val.BridgeC
public import proofs.«01_k».proof.Proof.Val.Point
public import proofs.«01_k».proof.Proof.Val.NewValue
public import proofs.«01_k».proof.Proof.Val.Layout

@[expose] public section

set_option maxRecDepth 100000

noncomputable section

namespace Cert.KernelIdeal.Step

open Cert.KernelIdeal Cert.KernelIdeal.Gen Idealize.ShloMosaic Idealize.ShloMosaic.TcCoe Idealize.SL.Sem

/-- Offsets zero. -/
theorem off0 : (![0, 0] : Fin 2 → ℕ) = fun _ => 0 := by funext a; fin_cases a <;> rfl

/-- A buffer whose newest store covers it holds what that store wrote. -/
theorem read_whole {sp : Space} {a b : ℕ} {e : EltTy} (v : View sig .tc sp ⟨2, ![a, b]⟩ e) {inb : ∀ i, (![0, 0] : Fin 2 → ℕ) i + (⟨2, ![a, b]⟩ : Shape).size i ≤ (⟨2, ![a, b]⟩ : Shape).size i}
    {L T : List (View.Piece (Elt Ideal) ⟨2, ![a, b]⟩ e)} {w : Vec Ideal ⟨2, ![a, b]⟩ e}
    (h : L = ⟨Rect.unit (s := ⟨2, ![a, b]⟩) ![0, 0] (⟨2, ![a, b]⟩ : Shape).size inb, w⟩ :: T) :
    v.read (Elt Ideal) (v.writes (Elt Ideal) (v.junk (Val := Elt Ideal)) L) = w := by
  rw [View.read_writes_junk_eq_canon, h, View.canon_cons_unit_zero off0]

/-- What every point asks of its block of cached codes and of the logits: block `n` of the codes, real logits. -/
structure Blk (K V : ℕ → ℕ → Fin 128 → EReal) (q : ℕ → Fin 128 → EReal) (f : ℕ → EReal) (tl : ℕ → ℕ → ℝ) (n : ℕ) (x5 x6 : IVec S16384x128 8) : Prop where
  k : ∀ t h d, t < 2048 → h < 8 → code (F := Ideal) x5 t h d = K (2048 * n + t) h d
  v : ∀ t h d, t < 2048 → h < 8 → code (F := Ideal) x6 t h d = V (2048 * n + t) h d
  s : ∀ r t, r < 256 → t < 2048 → logit K q f r (2048 * n + t) = (tl r (2048 * n + t) : EReal)

/-- The step, with the queries and the factors read from their buffers. -/
theorem inv_next (vK vV : View sig .tc .vmem S4096x128 .i32) (vS : View sig .tc .vmem S256x2048 .f32) (vQ : View sig .tc .vmem S4x64x256 .bf16)
    (fQ : vQ.ty.Contents (Elt Ideal)) (vC : View sig .tc .vmem S256x128 .f32) (fC : vC.ty.Contents (Elt Ideal)) {x5 x6 : IVec S16384x128 8}
    {K V : ℕ → ℕ → Fin 128 → EReal} {q : ℕ → Fin 128 → EReal} {f : ℕ → EReal} {tl : ℕ → ℕ → ℝ} {n : ℕ} {m l a : Vec Ideal S256x128 .f32}
    (hQ : IsQbd (vQ.read (Elt Ideal) fQ) q) (hC : ∀ (r : Fin 256) (j : Fin 128), vC.read (Elt Ideal) fC (ix2 r j) = f r)
    (b : Blk K V q f tl n x5 x6) (h : Inv tl V n m l a) :
    Inv tl V (n + 1)
      (mNew (F := Ideal) (rdW (F := Ideal) vK (wordsPiece (k0_pay166 (F := Ideal) x5))) (rdQ vQ fQ) (rdC vC fC) m)
      (lNew (F := Ideal) (rdS vS (pieces (rdW (F := Ideal) vK (wordsPiece (k0_pay166 (F := Ideal) x5))) (rdQ vQ fQ) (rdC vC fC) 8))
        (mNew (F := Ideal) (rdW (F := Ideal) vK (wordsPiece (k0_pay166 (F := Ideal) x5))) (rdQ vQ fQ) (rdC vC fC) m) m l)
      (accNew (F := Ideal) (rdW (F := Ideal) vV (wordsPiece (k0_pay167 (F := Ideal) x6)))
        (rdS vS (pieces (rdW (F := Ideal) vK (wordsPiece (k0_pay166 (F := Ideal) x5))) (rdQ vQ fQ) (rdC vC fC) 8))
        (mNew (F := Ideal) (rdW (F := Ideal) vK (wordsPiece (k0_pay166 (F := Ideal) x5))) (rdQ vQ fQ) (rdC vC fC) m) m a) := by
  refine inv_step vK vV vS x5 x6 _ _ K V q f tl n m l a b.k b.v (fun p hp i k => ?_) (fun p hp i k => ?_) (fun p hp i j => ?_) b.s h
  · exact (rdQ_apply vQ fQ p hp i _).trans (hQ ⟨p, hp⟩ i k).1
  · exact (rdQ_apply vQ fQ p hp i _).trans (hQ ⟨p, hp⟩ i k).2
  · exact (rdC_apply vC fC p hp i j).trans (hC _ j)

/-- What the output holds after the last point: the quotients of the sums. -/
theorem y_final (v v16 v17 : View sig .tc .vmem S256x128 .f32) (rN : ℕ → EReal) (L A : Vec Ideal S256x128 .f32)
    (s : Fin 4) (h : Fin 64) (d : Fin 128) :
    View.canon (yPieces (F := Ideal) v [⟨Rect.unit ![0, 0] S256x128.size inb_S256x128_S256x128_0_0, finish (F := Ideal) rN
        (v16.readCov [⟨Rect.unit ![0, 0] S256x128.size inb_S256x128_S256x128_0_0, L⟩] (Rect.unit ![0, 0] S256x128.size inb_S256x128_S256x128_0_0).toLoadRect)
        (v17.readCov [⟨Rect.unit ![0, 0] S256x128.size inb_S256x128_S256x128_0_0, A⟩] (Rect.unit ![0, 0] S256x128.size inb_S256x128_S256x128_0_0).toLoadRect)⟩] 64)
        (ix2 s ⟨128 * h + d, by omega⟩) =
      Ideal.div (A (ix2 ⟨4 * h + s, by omega⟩ d) * rN (h / 8)) (∑ j, L (ix2 ⟨4 * h + s, by omega⟩ j)) := by
  rw [View.readCov_unit_zero v16 off0, View.readCov_unit_zero v17 off0, y_canon, finish_apply]
  have e : (4 * h.val + s.val) / 32 = h.val / 8 := by omega
  simp only [e]

end Cert.KernelIdeal.Step

namespace Cert.KernelIdeal.Gen

open Cert.KernelIdeal.Step Idealize.ShloMosaic Idealize.ShloMosaic.TcCoe Idealize.SL.Sem

variable {K V : ℕ → ℕ → Fin 128 → EReal} {q : ℕ → Fin 128 → EReal} {f : ℕ → EReal} {tl : ℕ → ℕ → ℝ} {n : ℕ}

section B

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : ¬cond0_1 i)
    (x0 : Vec Ideal S8 .f32) (x1 : Vec Ideal S8 .f32) (x2 : Vec Ideal S4x8192 .bf16) (x3 : Vec Ideal S32x128 .bf16) (x4 : Vec Ideal S32x128 .bf16) (x5 : Vec Ideal S16384x128 .i8) (x6 : Vec Ideal S16384x128 .i8) (xs1 : Vec Ideal S4x64x256 .bf16) (xs2 : Vec Ideal S256x128 .f32) (xs4 : Vec Ideal S256x128 .f32) (xs5 : Vec Ideal S256x128 .f32) (xs6 : Vec Ideal S256x128 .f32)

/-- A middle point continues the sums. -/
theorem stepB
    (hQ : IsQbd xs1 q) (hC : ∀ (r : Fin 256) (j : Fin 128), xs2 (ix2 r j) = f r)
    (b : Blk K V q f tl n x5 x6) (h : Inv tl V n xs4 xs5 xs6) :
    Inv tl V (n + 1) (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6) (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6) (sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6) := by
  have e4 : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6 = _ := (read_whole VS0_4 (mB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6)).trans (shapeCast_self _ _)
  have e5 : sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6 = _ := read_whole VS0_5 (lB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6)
  have e6 : sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6 = _ := read_whole VS0_6 (aB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs1 xs2 xs4 xs5 xs6)
  rw [e4, e5, e6]
  rw [readWhole2 harg6 x5, readWhole2 harg7 x6, readWhole2 harg15 xs4, readWhole2 harg16 xs5, readWhole2 harg17 xs6]
  exact inv_next arg18.view arg19.view arg14.view arg12.view (harg12.unread xs1) arg13.view (harg13.unread xs2)
    (by rw [Memref.IsWhole.read_unread]; exact hQ) (fun r j => by rw [Memref.IsWhole.read_unread]; exact hC r j) b h

end B

section C

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : ¬cond0_0 i) (hc1 : cond0_1 i)
    (x0 : Vec Ideal S8 .f32) (x1 : Vec Ideal S8 .f32) (x2 : Vec Ideal S4x8192 .bf16) (x3 : Vec Ideal S32x128 .bf16) (x4 : Vec Ideal S32x128 .bf16) (x5 : Vec Ideal S16384x128 .i8) (x6 : Vec Ideal S16384x128 .i8) (xo8 : Vec Ideal S32x128 .fp8e4m3) (xo9 : Vec Ideal S32x128 .fp8e4m3) (xs1 : Vec Ideal S4x64x256 .bf16) (xs2 : Vec Ideal S256x128 .f32) (xs4 : Vec Ideal S256x128 .f32) (xs5 : Vec Ideal S256x128 .f32) (xs6 : Vec Ideal S256x128 .f32)

/-- The last point continues the sums and writes their quotients. -/
theorem stepC
    (hQ : IsQbd xs1 q) (hC : ∀ (r : Fin 256) (j : Fin 128), xs2 (ix2 r j) = f r)
    (b : Blk K V q f tl n x5 x6) (h : Inv tl V n xs4 xs5 xs6) :
    ∃ m l a : Vec Ideal S256x128 .f32, Inv tl V (n + 1) m l a ∧ ∀ (s : Fin 4) (h : Fin 64) (d : Fin 128),
      out0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xo8 xo9 xs1 xs2 xs4 xs5 xs6 (ix2 s ⟨128 * h + d, by omega⟩) =
        Ideal.div (a (ix2 ⟨4 * h + s, by omega⟩ d) * x1 (ix1 ⟨h / 8, by omega⟩)) (∑ j, l (ix2 ⟨4 * h + s, by omega⟩ j)) := by
  refine ⟨_, _, _, inv_next arg18.view arg19.view arg14.view arg12.view (harg12.unread xs1) arg13.view (harg13.unread xs2)
    (by rw [Memref.IsWhole.read_unread]; exact hQ) (fun r j => by rw [Memref.IsWhole.read_unread]; exact hC r j) b h, fun s h d => ?_⟩
  unfold out0_C_7
  rw [View.read_writes_junk_eq_canon, yC]
  refine (y_final arg11.view arg16.view arg17.view _ _ _ s h d).trans ?_
  rw [rdN_apply _ _ _ (by omega), Memref.IsWhole.read_unread, readWhole2 harg6 x5, readWhole2 harg7 x6, readWhole2 harg15 xs4, readWhole2 harg16 xs5, readWhole2 harg17 xs6]

end C

section A

variable (c : Dev nD) (i : grid0.Coords) (arg1 : Memref sig .tc .smem S8 .f32) (harg1 : arg1.IsWhole) (arg2 : Memref sig .tc .smem S8 .f32) (harg2 : arg2.IsWhole) (arg3 : Memref sig .tc .vmem S4x8192 .bf16) (harg3 : arg3.IsWhole) (arg4 : Memref sig .tc .vmem S32x128 .bf16) (harg4 : arg4.IsWhole) (arg5 : Memref sig .tc .vmem S32x128 .bf16) (harg5 : arg5.IsWhole) (arg6 : Memref sig .tc .vmem S16384x128 .i8) (harg6 : arg6.IsWhole) (arg7 : Memref sig .tc .vmem S16384x128 .i8) (harg7 : arg7.IsWhole) (arg8 : Memref sig .tc .vmem S4x8192 .bf16) (harg8 : arg8.IsWhole) (arg9 : Memref sig .tc .vmem S32x128 .fp8e4m3) (harg9 : arg9.IsWhole) (arg10 : Memref sig .tc .vmem S32x128 .fp8e4m3) (harg10 : arg10.IsWhole) (arg11 : Memref sig .tc .vmem S256x128 .f32) (harg11 : arg11.IsWhole) (arg12 : Memref sig .tc .vmem S4x64x256 .bf16) (harg12 : arg12.IsWhole) (arg13 : Memref sig .tc .vmem S256x128 .f32) (harg13 : arg13.IsWhole) (arg14 : Memref sig .tc .vmem S256x2048 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S4096x128 .i32) (harg18 : arg18.IsWhole) (arg19 : Memref sig .tc .vmem S4096x128 .i32) (harg19 : arg19.IsWhole) (hc0 : cond0_0 i) (hc1 : ¬cond0_1 i)
    (x0 : Vec Ideal S8 .f32) (x1 : Vec Ideal S8 .f32) (x2 : Vec Ideal S4x8192 .bf16) (x3 : Vec Ideal S32x128 .bf16) (x4 : Vec Ideal S32x128 .bf16) (x5 : Vec Ideal S16384x128 .i8) (x6 : Vec Ideal S16384x128 .i8)

/-- The first point stores the new keys' codes. -/
theorem keysA (u : Fin 32) (d : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 u d) = clip8 (x3 (ix2 u d)) (x0 (ix1 ⟨u % 8, by omega⟩)) := by
  unfold out0_A_8
  rw [read_whole VO0_8 (kcA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6), kCodes_apply, readWhole2 harg4 x3, rdN_apply _ _ _ (by omega),
    Memref.IsWhole.read_unread]

/-- The first point stores the new values' codes. -/
theorem valuesA (u : Fin 32) (d : Fin 128) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 u d) = clip8 (x4 (ix2 u d)) (x1 (ix1 ⟨u % 8, by omega⟩)) := by
  unfold out0_A_9
  rw [read_whole VO0_9 (vcA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6), vCodes_apply, readWhole2 harg5 x4, rdN_apply _ _ _ (by omega),
    Memref.IsWhole.read_unread]

/-- The queries the first point lays out. -/
theorem queryA (hq : ∀ (r : Fin 256) (d : Fin 128), x2 (ix2 ⟨r % 4, by omega⟩ ⟨128 * (r / 4) + d, by omega⟩) = q r d) (r : Fin 256) (d : Fin 128) :
    queries arg11.view (rdX arg3.view (harg3.unread x2)) (ix2 r d) = q r d := by
  rw [queries_apply, rdX_apply _ _ _ (by omega), Memref.IsWhole.read_unread]
  exact hq r d

/-- The first point stores the queries in pairs of heads. -/
theorem pairsA (hq : ∀ (r : Fin 256) (d : Fin 128), x2 (ix2 ⟨r % 4, by omega⟩ ⟨128 * (r / 4) + d, by omega⟩) = q r d) :
    IsQbd (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6) q := by
  unfold sout0_A_1
  rw [View.read_writes_junk_eq_canon, qA]
  exact isQbd_canon _ q (queryA arg3 harg3 arg11 x2 hq)

/-- The factors the first point computes. -/
theorem factorA (hf : ∀ r : Fin 256, x0 (ix1 ⟨r / 32, by omega⟩) * (kappa : EReal) = f r) (r : Fin 256) (j : Fin 128) :
    factors (F := Ideal) (rdN arg1.view (harg1.unread x0)) (ix2 r j) = f r := by
  rw [factors_apply, rdN_apply _ _ _ (by omega), Memref.IsWhole.read_unread]
  exact hf r

/-- The first point stores the logit factors. -/
theorem factorsA (hf : ∀ r : Fin 256, x0 (ix1 ⟨r / 32, by omega⟩) * (kappa : EReal) = f r) (r : Fin 256) (j : Fin 128) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 r j) = f r := by
  unfold sout0_A_2
  rw [read_whole VS0_2 (cA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6)]
  exact factorA arg1 harg1 x0 hf r j

/-- The first point starts the sums with the new tokens and adds the first block. -/
theorem stepA (hq : ∀ (r : Fin 256) (d : Fin 128), x2 (ix2 ⟨r % 4, by omega⟩ ⟨128 * (r / 4) + d, by omega⟩) = q r d)
    (hf : ∀ r : Fin 256, x0 (ix1 ⟨r / 32, by omega⟩) * (kappa : EReal) = f r)
    (hk : ∀ (u : Fin 32) (d : Fin 128), clip8 (x3 (ix2 u d)) (x0 (ix1 ⟨u % 8, by omega⟩)) = K (131072 + u / 8) (u % 8) d)
    (hv : ∀ (u : Fin 32) (d : Fin 128), clip8 (x4 (ix2 u d)) (x1 (ix1 ⟨u % 8, by omega⟩)) = V (131072 + u / 8) (u % 8) d)
    (hs : ∀ r j, r < 256 → j ≤ r % 4 → logit K q f r (131072 + j) = (tl r (131072 + j) : EReal))
    (b : Blk K V q f tl 0 x5 x6) :
    Inv tl V 1 (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6) (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6) := by
  have e4 : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 = _ := (read_whole VS0_4 (mA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6)).trans (shapeCast_self _ _)
  have e5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 = _ := read_whole VS0_5 (lA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6)
  have e6 : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 = _ := read_whole VS0_6 (aA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6)
  rw [e4, e5, e6]
  rw [readWhole2 harg6 x5, readWhole2 harg7 x6, readWhole2 harg4 x3, readWhole2 harg5 x4]
  rw [View.readCov_unit_zero arg15.view off0, View.readCov_unit_zero arg16.view off0, View.readCov_unit_zero arg17.view off0]
  refine inv_next arg18.view arg19.view arg14.view arg12.view _ arg13.view _ ?_ (fun r j => ?_) b (inv_zero tl V _ _ (fun r u => ?_) fun u d => ?_)
  · rw [View.read_writes_junk_eq_canon]
    exact isQbd_canon _ q (queryA arg3 harg3 arg11 x2 hq)
  · rw [View.read_writes_junk_eq_canon, View.canon_unit_zero off0]
    exact factorA arg1 harg1 x0 hf r j
  · rw [newLogits_apply]
    by_cases h : u.val % 8 = r.val / 32 ∧ u.val / 8 ≤ r.val % 4
    · rw [if_pos h, if_pos h, ← hs r (u / 8) r.isLt h.2]
      unfold logit
      refine congrArg₂ (· * ·) (Finset.sum_congr rfl fun d _ => ?_) ?_
      · rw [queryA arg3 harg3 arg11 x2 hq, kCodes_apply, rdN_apply _ _ _ (by omega), Memref.IsWhole.read_unread, ← h.1]
        exact congrArg (q r d * ·) (hk u d)
      · rw [View.readCov_eq_canon', View.canon_unit_zero off0]
        refine Eq.trans (congrArg _ ?_) (factorA arg1 harg1 x0 hf r ⟨u, by omega⟩)
        exact idx_unit (s := S256x128) (off := ![0, 0]) (size := S256x32.size) inb_S256x128_S256x32_0_0 (ix2 r u) _ fun a => by
          fin_cases a <;> simp [ix2]
    · rw [if_neg h, if_neg h]
  · rw [vCodes_apply, rdN_apply _ _ _ (by omega), Memref.IsWhole.read_unread]
    exact hv u d

end A

end Cert.KernelIdeal.Gen

end
-- ==== Proof.Val.Spec.lean ====
/- The quantities both programs compute with, on the argument arrays: the codes of every token (cached, then new), the
   queries, the logit factors, and what the precondition says of them. -/
module

public import proofs.«01_k».proof.Proof.Val.NewValue

@[expose] public section

set_option maxRecDepth 100000

noncomputable section

namespace Cert.KernelIdeal.Step

open Cert.KernelIdeal Cert.KernelIdeal.Gen Idealize.ShloMosaic Idealize.SL.Sem

/-- The code of token `T`, head `h`, lane `d`: token `T < 131072` is cached, token `131072 + j` is the new token `j`. -/
def codes (kn : Vec Ideal S1x4x8x128 .bf16) (b : IVec S1x131072x8x128 8) (s : Vec Ideal S8 .f32) (T h : ℕ) (d : Fin 128) : EReal :=
  if hh : h < 8 then
    if hT : T < 131072 then Ideal.ofBits .fp8e4m3 (b (ix4 0 ⟨T, hT⟩ ⟨h, hh⟩ d))
    else if hj : T < 131076 then clip8 (kn (ix4 0 ⟨T - 131072, by omega⟩ ⟨h, hh⟩ d)) (s (ix1 ⟨h, hh⟩)) else 0
  else 0

/-- The query of row `r = 4 hq + s`: position `s`, head `hq`. -/
def query (x : Vec Ideal S1x4x8192 .bf16) (r : ℕ) (d : Fin 128) : EReal :=
  if hr : r < 256 then x (ix3 0 ⟨r % 4, by omega⟩ ⟨128 * (r / 4) + d, by omega⟩) else 0

/-- The factor of row `r`'s logits: its head's key scale times the constant. -/
def factor (s : Vec Ideal S8 .f32) (r : ℕ) : EReal :=
  if hr : r < 256 then s (ix1 ⟨r / 32, by omega⟩) * (kappa : EReal) else 0

/-- What the precondition asks, entry by entry. -/
structure Tame (x : Vec Ideal S1x4x8192 .bf16) (b : IVec S1x131072x8x128 8) (ks vs : Vec Ideal S8 .f32) : Prop where
  x : ∀ i, IsReal (x i)
  ks : ∀ i, IsReal (ks i)
  vs : ∀ i, IsReal (vs i)
  pos : ∀ i, b i ≠ 127#8
  neg : ∀ i, b i ≠ 255#8

/-- The number of a code byte is never `⊤`. -/
theorem byte_ne_top (b : BitVec 8) : Ideal.ofBits .fp8e4m3 b ≠ ⊤ := by
  unfold Ideal.ofBits Ideal.e4m3fn
  dsimp only
  split_ifs <;> first | exact bot_ne_top | exact EReal.coe_ne_top _

/-- A code byte other than the two of no number stands for a real. -/
theorem byte_real (b : BitVec 8) (h1 : b ≠ 127#8) (h2 : b ≠ 255#8) : IsReal (Ideal.ofBits .fp8e4m3 b) := by
  unfold Ideal.ofBits Ideal.e4m3fn
  dsimp only
  rw [if_neg (by revert b; decide +kernel)]
  split_ifs <;> exact isReal_coe _

theorem codes_ne_top (kn : Vec Ideal S1x4x8x128 .bf16) (b : IVec S1x131072x8x128 8) (s : Vec Ideal S8 .f32) (T h : ℕ) (d : Fin 128) :
    codes kn b s T h d ≠ ⊤ := by
  unfold codes
  split_ifs
  · exact byte_ne_top _
  · exact (clip8_real _ _).ne_top
  · exact EReal.zero_ne_top
  · exact EReal.zero_ne_top

variable {x : Vec Ideal S1x4x8192 .bf16} {b : IVec S1x131072x8x128 8} {ks vs : Vec Ideal S8 .f32} (kn : Vec Ideal S1x4x8x128 .bf16)

theorem Tame.codes (H : Tame x b ks vs) (T h : ℕ) (d : Fin 128) : IsReal (codes kn b ks T h d) := by
  unfold Step.codes
  split_ifs
  · exact byte_real _ (H.pos _) (H.neg _)
  · exact clip8_real _ _
  · exact ⟨0, rfl⟩
  · exact ⟨0, rfl⟩

theorem Tame.query (H : Tame x b ks vs) (r : ℕ) (d : Fin 128) : IsReal (query x r d) := by
  unfold Step.query
  split_ifs
  · exact H.x _
  · exact ⟨0, rfl⟩

theorem Tame.factor (H : Tame x b ks vs) (r : ℕ) : IsReal (factor ks r) := by
  unfold Step.factor
  split_ifs
  · exact (H.ks _).mul (isReal_coe _)
  · exact ⟨0, rfl⟩

/-- The logit of row `r` and token `T`, a real number. -/
def lg (x : Vec Ideal S1x4x8192 .bf16) (kn : Vec Ideal S1x4x8x128 .bf16) (b : IVec S1x131072x8x128 8) (ks : Vec Ideal S8 .f32) (r T : ℕ) : ℝ :=
  (logit (Step.codes kn b ks) (Step.query x) (Step.factor ks) r T).toReal

theorem Tame.logit (H : Tame x b ks vs) (r T : ℕ) :
    logit (Step.codes kn b ks) (Step.query x) (Step.factor ks) r T = (lg x kn b ks r T : EReal) := by
  obtain ⟨a, ha⟩ : IsReal (Step.logit (Step.codes kn b ks) (Step.query x) (Step.factor ks) r T) := by
    unfold Step.logit
    exact (IsReal.sum fun d _ => (H.query r d).mul (H.codes kn T (r / 32) d)).mul (H.factor r)
  unfold lg
  rw [ha, EReal.toReal_coe]

end Cert.KernelIdeal.Step

end
-- ==== Proof.Val.Entry.lean ====
/- What the windows hold at each grid point, as entries of the argument arrays. -/
module

public import proofs.«01_k».proof.Proof.Run.Value
public import proofs.«01_k».proof.Proof.Val.Points
public import proofs.«01_k».proof.Proof.Val.Spec
public import Idealize.ShloMosaic.Lib.Claim

@[expose] public section

noncomputable section

namespace Cert.KernelIdeal.Value

open Cert.KernelIdeal Cert.KernelIdeal.Gen Cert.KernelIdeal.Step Idealize.ShloMosaic Idealize.ShloMosaic.TcCoe Idealize.SL.Sem

variable (m : (ℓ : Loc nD τ sig) → Buf (Elt Ideal) ℓ) (c : Dev nD)

/-- The arguments: the queries, the new keys and values, the cached keys' bytes, the key scales, the cached values'
    bytes, the value scales. -/
abbrev aX : Vec Ideal S1x4x8192 .bf16 := m ((c : Thread nD τ).loc main_arg0)
abbrev aKn : Vec Ideal S1x4x8x128 .bf16 := m ((c : Thread nD τ).loc main_arg1)
abbrev aVn : Vec Ideal S1x4x8x128 .bf16 := m ((c : Thread nD τ).loc main_arg2)
abbrev aK : IVec S1x131072x8x128 8 := m ((c : Thread nD τ).loc main_arg3)
abbrev aKs : Vec Ideal S8 .f32 := m ((c : Thread nD τ).loc main_arg4)
abbrev aV : IVec S1x131072x8x128 8 := m ((c : Thread nD τ).loc main_arg5)
abbrev aVs : Vec Ideal S8 .f32 := m ((c : Thread nD τ).loc main_arg6)

/-- A cache laid out in rows: row `8 T + h` is token `T`, head `h`. -/
theorem rows_cache (x : IVec S1x131072x8x128 8) (j : S1048576x128.Idx) (T : Fin 131072) (h : Fin 8) (d : Fin 128)
    (h0 : (j 0).val = 8 * T + h) (h1 : (j 1).val = d) :
    shapeCast S1048576x128 x shapeCasts_S1x131072x8x128_S1048576x128 j = x (ix4 0 T h d) := by
  refine shapeCast_apply _ _ _ _ ?_
  rw [Shape.rowMajor_val_four, Shape.rowMajor_val_two]
  show ((0 * 131072 + T.val) * 8 + h.val) * 128 + d.val = (j 0).val * 128 + (j 1).val
  rw [h0, h1]; omega

/-- The new tokens laid out in rows: row `8 j + h` is token `j`, head `h`. -/
theorem rows_new (x : Vec Ideal S1x4x8x128 .bf16) (j : S32x128.Idx) (T : Fin 4) (h : Fin 8) (d : Fin 128)
    (h0 : (j 0).val = 8 * T + h) (h1 : (j 1).val = d) :
    shapeCast S32x128 x shapeCasts_S1x4x8x128_S32x128 j = x (ix4 0 T h d) := by
  refine shapeCast_apply _ _ _ _ ?_
  rw [Shape.rowMajor_val_four, Shape.rowMajor_val_two]
  show ((0 * 4 + T.val) * 8 + h.val) * 128 + d.val = (j 0).val * 128 + (j 1).val
  rw [h0, h1]; omega

/-- The queries laid out in rows. -/
theorem rows_x (x : Vec Ideal S1x4x8192 .bf16) (j : S4x8192.Idx) (s : Fin 4) (d : Fin 8192) (h0 : (j 0).val = s) (h1 : (j 1).val = d) :
    shapeCast S4x8192 x shapeCasts_S1x4x8192_S4x8192 j = x (ix3 0 s d) := by
  refine shapeCast_apply _ _ _ _ ?_
  rw [Shape.rowMajor_val_three, Shape.rowMajor_val_two]
  show (0 * 4 + s.val) * 8192 + d.val = (j 0).val * 8192 + (j 1).val
  rw [h0, h1]; omega

theorem idx0 : ∀ t : Fin cfg0.N, win0_0.index t 0 = 0 := by decide +kernel
theorem idx1 : ∀ t : Fin cfg0.N, win0_1.index t 0 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

theorem in0 (t : Fin cfg0.N) (i : Fin 8) : (iblk m c 0 t : Vec Ideal S8 .f32) (ix1 i) = aKs m c (ix1 i) := by
  unfold iblk
  rw [View.read_apply]
  show V m c main_arg4 (((View.whole main_arg4).slice (win0_0.rect t)).emb (ix1 i)) = _
  rw [V_main_arg4]
  refine congrArg (aKs m c) (funext fun a => Fin.ext ?_)
  fin_cases a
  show win0_0.index t 0 * 8 + 1 * i.val = i.val
  rw [idx0 t]; omega

theorem in1 (t : Fin cfg0.N) (i : Fin 8) : (iblk m c 1 t : Vec Ideal S8 .f32) (ix1 i) = aVs m c (ix1 i) := by
  unfold iblk
  rw [View.read_apply]
  show V m c main_arg6 (((View.whole main_arg6).slice (win0_1.rect t)).emb (ix1 i)) = _
  rw [V_main_arg6]
  refine congrArg (aVs m c) (funext fun a => Fin.ext ?_)
  fin_cases a
  show win0_1.index t 0 * 8 + 1 * i.val = i.val
  rw [idx1 t]; omega

theorem in2 (t : Fin cfg0.N) (s : Fin 4) (d : Fin 8192) : (iblk m c 2 t : Vec Ideal S4x8192 .bf16) (ix2 s d) = aX m c (ix3 0 s d) := by
  unfold iblk
  rw [View.read_apply]
  show V m c main_v0 _ = _
  entry_read
  refine rows_x (aX m c) _ s d ?_ ?_
  · show win0_2.index t 0 * 4 + 1 * s.val = s.val
    rw [(idx2 t).1]; omega
  · show win0_2.index t 1 * 8192 + 1 * d.val = d.val
    rw [(idx2 t).2]; omega

theorem in3 (t : Fin cfg0.N) (u : Fin 32) (d : Fin 128) : (iblk m c 3 t : Vec Ideal S32x128 .bf16) (ix2 u d) =
    aKn m c (ix4 0 ⟨u / 8, by omega⟩ ⟨u % 8, by omega⟩ d) := by
  unfold iblk
  rw [View.read_apply]
  show V m c main_v1 _ = _
  entry_read
  refine rows_new (aKn m c) _ _ _ d ?_ ?_
  · show win0_3.index t 0 * 32 + 1 * u.val = 8 * (u.val / 8) + u.val % 8
    rw [(idx3 t).1]; omega
  · show win0_3.index t 1 * 128 + 1 * d.val = d.val
    rw [(idx3 t).2]; omega

theorem in4 (t : Fin cfg0.N) (u : Fin 32) (d : Fin 128) : (iblk m c 4 t : Vec Ideal S32x128 .bf16) (ix2 u d) =
    aVn m c (ix4 0 ⟨u / 8, by omega⟩ ⟨u % 8, by omega⟩ d) := by
  unfold iblk
  rw [View.read_apply]
  show V m c main_v2 _ = _
  entry_read
  refine rows_new (aVn m c) _ _ _ d ?_ ?_
  · show win0_4.index t 0 * 32 + 1 * u.val = 8 * (u.val / 8) + u.val % 8
    rw [(idx4 t).1]; omega
  · show win0_4.index t 1 * 128 + 1 * d.val = d.val
    rw [(idx4 t).2]; omega

theorem in5 (t : Fin cfg0.N) (s h : ℕ) (d : Fin 128) (hs : s < 2048) (hh : h < 8) :
    code (F := Ideal) (iblk m c 5 t) s h d = codes (aKn m c) (aK m c) (aKs m c) (2048 * t + s) h d := by
  have ht : t.val < 64 := lt_of_lt_of_eq t.isLt N_0
  unfold code codes
  rw [dif_pos (by omega), dif_pos hh, dif_pos (by omega)]
  refine congrArg (Ideal.ofBits .fp8e4m3) ?_
  unfold iblk
  rw [View.read_apply]
  show V m c main_v3 _ = _
  entry_read
  refine rows_cache (aK m c) _ _ _ d ?_ ?_
  · show win0_5.index t 0 * 16384 + 1 * (8 * s + h) = 8 * (2048 * t.val + s) + h
    rw [(idx5 t).1]; omega
  · show win0_5.index t 1 * 128 + 1 * d.val = d.val
    rw [(idx5 t).2]; omega

theorem in6 (t : Fin cfg0.N) (s h : ℕ) (d : Fin 128) (hs : s < 2048) (hh : h < 8) :
    code (F := Ideal) (iblk m c 6 t) s h d = codes (aVn m c) (aV m c) (aVs m c) (2048 * t + s) h d := by
  have ht : t.val < 64 := lt_of_lt_of_eq t.isLt N_0
  unfold code codes
  rw [dif_pos (by omega), dif_pos hh, dif_pos (by omega)]
  refine congrArg (Ideal.ofBits .fp8e4m3) ?_
  unfold iblk
  rw [View.read_apply]
  show V m c main_v4 _ = _
  entry_read
  refine rows_cache (aV m c) _ _ _ d ?_ ?_
  · show win0_6.index t 0 * 16384 + 1 * (8 * s + h) = 8 * (2048 * t.val + s) + h
    rw [(idx6 t).1]; omega
  · show win0_6.index t 1 * 128 + 1 * d.val = d.val
    rw [(idx6 t).2]; omega

end Cert.KernelIdeal.Value

end
-- ==== Proof.Val.Sweep.lean ====
/- The 64 grid points one after another: what the kernel's three output arrays end holding, as the invariant of the sums. -/
module

public import proofs.«01_k».proof.Proof.Val.Entry

@[expose] public section

set_option maxRecDepth 100000

set_option maxHeartbeats 1000000
noncomputable section

namespace Cert.KernelIdeal.Value

open Cert.KernelIdeal Cert.KernelIdeal.Gen Cert.KernelIdeal.Step Idealize.ShloMosaic Idealize.ShloMosaic.TcCoe Idealize.SL.Sem

variable (m : (ℓ : Loc nD τ sig) → Buf (Elt Ideal) ℓ) (c : Dev nD)

/-- The codes of the keys and of the values. -/
abbrev kCode : ℕ → ℕ → Fin 128 → EReal := codes (aKn m c) (aK m c) (aKs m c)
abbrev vCode : ℕ → ℕ → Fin 128 → EReal := codes (aVn m c) (aV m c) (aVs m c)
/-- The logits. -/
abbrev tlog : ℕ → ℕ → ℝ := lg (aX m c) (aKn m c) (aK m c) (aKs m c)

/-- The state after `n` points: the new codes stored, the queries and the factors laid out, the sums over `n` blocks. -/
structure Good (n : ℕ) (k v : Vec Ideal S32x128 .fp8e4m3) (q : Vec Ideal S4x64x256 .bf16) (f M l a : Vec Ideal S256x128 .f32) : Prop where
  kc : ∀ (u : Fin 32) (d : Fin 128), k (ix2 u d) = kCode m c (131072 + u / 8) (u % 8) d
  vc : ∀ (u : Fin 32) (d : Fin 128), v (ix2 u d) = vCode m c (131072 + u / 8) (u % 8) d
  q : IsQbd q (query (aX m c))
  f : ∀ (r : Fin 256) (j : Fin 128), f (ix2 r j) = factor (aKs m c) r
  inv : Step.Inv (tlog m c) (vCode m c) n M l a

/-- The same of the outputs and the scratch carried between points. -/
def GoodSt (n : ℕ) (st : Vec Ideal S4x8192 .bf16 × Vec Ideal S32x128 .fp8e4m3 × Vec Ideal S32x128 .fp8e4m3 × Vec Ideal S4x64x256 .bf16 × Vec Ideal S256x128 .f32 × Vec Ideal S256x128 .f32 × Vec Ideal S256x128 .f32 × Vec Ideal S256x128 .f32) : Prop :=
  Good m c n st.2.1 st.2.2.1 st.2.2.2.1 st.2.2.2.2.1 st.2.2.2.2.2.1 st.2.2.2.2.2.2.1 st.2.2.2.2.2.2.2

theorem codes_new (kn : Vec Ideal S1x4x8x128 .bf16) (b : IVec S1x131072x8x128 8) (s : Vec Ideal S8 .f32) (u : Fin 32) (d : Fin 128) :
    codes kn b s (131072 + u / 8) (u % 8) d = clip8 (kn (ix4 0 ⟨u / 8, by omega⟩ ⟨u % 8, by omega⟩ d)) (s (ix1 ⟨u % 8, by omega⟩)) := by
  unfold codes
  rw [dif_pos (by omega), dif_neg (by omega), dif_pos (by omega)]
  exact congrArg (fun j : Fin 4 => clip8 (kn (ix4 0 j ⟨u % 8, by omega⟩ d)) (s (ix1 ⟨u % 8, by omega⟩)))
    (Fin.ext (by show 131072 + u.val / 8 - 131072 = u.val / 8; omega))

variable (H : Tame (aX m c) (aK m c) (aKs m c) (aVs m c))

include H in
theorem blk (t : Fin cfg0.N) : Blk (kCode m c) (vCode m c) (query (aX m c)) (factor (aKs m c)) (tlog m c) t (iblk m c 5 t) (iblk m c 6 t) :=
  ⟨fun s h d hs hh => in5 m c t s h d hs hh, fun s h d hs hh => in6 m c t s h d hs hh, fun r s _ _ => H.logit (aKn m c) r _⟩

include H in
theorem good_zero (t : Fin cfg0.N) (h0 : t.val % 64 = 0) (h1 : ¬t.val % 64 = 63) (ht : t.val = 0) (acc) : GoodSt m c 1 (stAt0 m c t.val t.isLt acc) := by
  rw [stAt0_A m c t _ h0 h1]
  unfold GoodSt
  dsimp only
  have hk : ∀ (u : Fin 32) (d : Fin 128), clip8 ((iblk m c 3 t : Vec Ideal S32x128 .bf16) (ix2 u d)) ((iblk m c 0 t : Vec Ideal S8 .f32) (ix1 ⟨u % 8, by omega⟩)) =
      kCode m c (131072 + u / 8) (u % 8) d := fun u d => by rw [in3, in0]; exact (codes_new ..).symm
  have hv : ∀ (u : Fin 32) (d : Fin 128), clip8 ((iblk m c 4 t : Vec Ideal S32x128 .bf16) (ix2 u d)) ((iblk m c 1 t : Vec Ideal S8 .f32) (ix1 ⟨u % 8, by omega⟩)) =
      vCode m c (131072 + u / 8) (u % 8) d := fun u d => by rw [in4, in1]; exact (codes_new ..).symm
  have hq : ∀ (r : Fin 256) (d : Fin 128), (iblk m c 2 t : Vec Ideal S4x8192 .bf16) (ix2 ⟨r % 4, by omega⟩ ⟨128 * (r / 4) + d, by omega⟩) = query (aX m c) r d :=
    fun r d => by unfold query; rw [in2, dif_pos r.isLt]
  have hf : ∀ r : Fin 256, (show EReal from (iblk m c 0 t : Vec Ideal S8 .f32) (ix1 ⟨r / 32, by omega⟩)) * (kappa : EReal) = factor (aKs m c) r :=
    fun r => by unfold factor; rw [dif_pos r.isLt]; exact congrArg (· * (kappa : EReal)) (in0 m c t _)
  have hb := blk m c H t
  rw [ht] at hb
  refine Good.mk (fun u d => ?_) (fun u d => ?_) ?_ ?_ ?_
  · rw [keysA]; exact hk u d
  · rw [valuesA]; exact hv u d
  · apply pairsA; exact hq
  · apply factorsA; exact hf
  · apply stepA
    · exact hq
    · exact hf
    · exact hk
    · exact hv
    · exact fun r j _ _ => H.logit (aKn m c) r _
    · exact hb

include H in
theorem good_succ (t : Fin cfg0.N) (h0 : ¬t.val % 64 = 0) (h1 : ¬t.val % 64 = 63) (acc) (g : GoodSt m c t.val acc) : GoodSt m c (t.val + 1) (stAt0 m c t.val t.isLt acc) := by
  rw [stAt0_B m c t acc h0 h1]
  unfold GoodSt at g ⊢
  dsimp only
  refine Good.mk ?_ ?_ ?_ ?_ ?_
  · exact g.kc
  · exact g.vc
  · exact g.q
  · exact g.f
  · apply stepB
    · exact g.q
    · exact g.f
    · exact blk m c H t
    · exact g.inv

include H in
theorem good (n : ℕ) (h : 0 + n < cfg0.N) (h1 : n < 63) :
    GoodSt m c (n + 1) (Pipeline.accAt (fun n h => stAt0 m c n h junk0) (stAt0 m c) 0 n h) := by
  induction n with
  | zero => exact good_zero m c H ⟨0, h⟩ rfl (by show ¬ 0 % 64 = 63; decide) rfl _
  | succ n ih =>
    have e' : ∀ (k : ℕ) (hk : k < cfg0.N) (_ : k = n + 1) (acc), GoodSt m c (n + 1) acc → GoodSt m c (n + 1 + 1) (stAt0 m c k hk acc) := by
      intro k hk e acc g
      subst e
      exact good_succ m c H ⟨n + 1, hk⟩ (by show ¬ (n + 1) % 64 = 0; omega) (by show ¬ (n + 1) % 64 = 63; omega) acc g
    exact e' _ h (by omega) _ (ih (by omega) (by omega))

/-- What the last point leaves: the new codes, and the quotients of sums over all tokens. -/
def Last (y : Vec Ideal S4x8192 .bf16) (k v : Vec Ideal S32x128 .fp8e4m3) : Prop :=
  (∀ (u : Fin 32) (d : Fin 128), k (ix2 u d) = kCode m c (131072 + u / 8) (u % 8) d) ∧
    (∀ (u : Fin 32) (d : Fin 128), v (ix2 u d) = vCode m c (131072 + u / 8) (u % 8) d) ∧
    ∃ M l a : Vec Ideal S256x128 .f32, Step.Inv (tlog m c) (vCode m c) 64 M l a ∧ ∀ (s : Fin 4) (h : Fin 64) (d : Fin 128),
      y (ix2 s ⟨128 * h + d, by omega⟩) =
        Ideal.div (a (ix2 ⟨4 * h + s, by omega⟩ d) * aVs m c (ix1 ⟨h / 8, by omega⟩)) (∑ j, l (ix2 ⟨4 * h + s, by omega⟩ j))

include H in
/-- The last point's outputs. -/
theorem good_last (t : Fin cfg0.N) (h0 : ¬t.val % 64 = 0) (h1 : t.val % 64 = 63) (acc) (g : GoodSt m c 63 acc) (ht : t.val = 63) :
    Last m c (stAt0 m c t.val t.isLt acc).1 (stAt0 m c t.val t.isLt acc).2.1 (stAt0 m c t.val t.isLt acc).2.2.1 := by
  rw [stAt0_C m c t acc h0 h1]
  unfold GoodSt at g
  dsimp only
  have hb := blk m c H t
  rw [ht] at hb
  refine ⟨g.kc, g.vc, ?_⟩
  simp only [← in1 m c t]
  apply stepC
  · exact g.q
  · exact g.f
  · exact hb
  · exact g.inv

include H in
/-- The three output arrays after the run. -/
theorem last : Last m c (G7 m c) (G8 m c) (G9 m c) := by
  rw [G7_last, G8_last, G9_last]
  have e : ∀ (k : ℕ) (h : 0 + k < cfg0.N), k = 63 → Last m c (Pipeline.accAt (fun n h => stAt0 m c n h junk0) (stAt0 m c) 0 k h).1
      (Pipeline.accAt (fun n h => stAt0 m c n h junk0) (stAt0 m c) 0 k h).2.1 (Pipeline.accAt (fun n h => stAt0 m c n h junk0) (stAt0 m c) 0 k h).2.2.1 := by
    intro k h hk
    obtain ⟨n, rfl⟩ : ∃ n, k = n + 1 := ⟨62, hk⟩
    have e' : ∀ (k : ℕ) (hk : k < cfg0.N) (_ : k = 63) (acc), GoodSt m c 63 acc →
        Last m c (stAt0 m c k hk acc).1 (stAt0 m c k hk acc).2.1 (stAt0 m c k hk acc).2.2.1 := by
      intro k hk e acc g
      exact good_last m c H ⟨k, hk⟩ (by show ¬ k % 64 = 0; omega) (by show k % 64 = 63; omega) acc g e
    have g := good m c H n (by omega) (by omega)
    rw [hk] at g
    exact e' _ h (by omega) _ g
  exact e 63 _ rfl

end Cert.KernelIdeal.Value

end
-- ==== Proof.Val.RefRead.lean ====
/- What the reference's host lines leave in its results, as terms over the arrays its one-point call leaves. -/
module

public import proofs.«01_k».proof.Proof.Gen.ReferenceIdeal.Frame
public import Idealize.ShloMosaic.Lib.StableHlo.RunRead
public import Idealize.ShloMosaic.Lib.StableHlo.ReadAt
public import Idealize.ShloMosaic.Lib.Claim
public import proofs.«01_k».proof.Proof.Val.Spec

@[expose] public section

set_option maxRecDepth 100000

noncomputable section

namespace Cert.ReferenceIdeal.Value

open Cert.ReferenceIdeal Cert.ReferenceIdeal.Gen Idealize.ShloMosaic Idealize.ShloMosaic.TcCoe Idealize.SL.Sem

/-- The cached tokens' rows and then the new tokens'. -/
def allRows (a : FVec Ideal S1x131072x8x128 .bf16) (b : FVec Ideal S1x4x8x128 .bf16) : FVec Ideal S1x131076x8x128 .bf16 :=
  concatenate S1x131076x8x128 1 [⟨S1x131072x8x128, a⟩, ⟨S1x4x8x128, b⟩] concatenates_S1x131072x8x128_S1x4x8x128_S1x131076x8x128_d1

/-- Which token each position sees. -/
def visible : IVec S4x131076 1 :=
  cmpi .sle
    (broadcastInDim S4x131076 ![0, 1] bcast_S1x131076_S4x131076_0_1
      (broadcastInDim S1x131076 ![1] bcast_S131076_S1x131076_1 (iotaInDim S131076 32 0)))
    (broadcastInDim S4x131076 ![0, 1] bcast_S4x1_S4x131076_0_1
      (addi (broadcastInDim S4x1 ![] bcast_S_S4x1 (constantI S_ 32 131072#32))
        (broadcastInDim S4x1 ![0] bcast_S4_S4x1_0 (iotaInDim S4 32 0))))

/-- The scores, those not seen at `-∞`. -/
def scores (x : FVec Ideal S1x4x8192 .bf16) (k : FVec Ideal S1x131076x8x128 .bf16) : FVec Ideal S1x8x8x4x131076 .f32 :=
  select (broadcastInDim S1x8x8x4x131076 ![3, 4] bcast_S4x131076_S1x8x8x4x131076_3_4 visible)
    (Host.divf
      (transpose S1x8x8x4x131076 [0, 1, 4, 3, 2]
        (Host.dotGeneral dot_S1x131076x8x128_S1x4x8x8x128_S1x8x131076x4x8_3_4_1_13_02_02 none k
          (shapeCast S1x4x8x8x128 x shapeCasts_S1x4x8192_S1x4x8x8x128) : FVec Ideal S1x8x131076x4x8 .f32)
        transposes_S1x8x131076x4x8_S1x8x8x4x131076_0_1_4_3_2)
      (broadcastInDim S1x8x8x4x131076 ![] bcast_S_S1x8x8x4x131076 (Host.sqrt (constant S_ .f32 0x43000000#32))))
    (broadcastInDim S1x8x8x4x131076 ![] bcast_S_S1x8x8x4x131076 (constant S_ .f32 0xFF800000#32))

/-- The greatest score of each row. -/
def tops (s : FVec Ideal S1x8x8x4x131076 .f32) : FVec Ideal S1x8x8x4 .f32 :=
  Host.reduce FloatOps.maximumf s (constant S_ .f32 0xFF800000#32) reducesTo_S1x8x8x4x131076_S1x8x8x4_d4 h_S_

/-- The weights: `exp` of the scores less the row's greatest. -/
def weights (s : FVec Ideal S1x8x8x4x131076 .f32) : FVec Ideal S1x8x8x4x131076 .f32 :=
  Host.exp (subf s (broadcastInDim S1x8x8x4x131076 ![0, 1, 2, 3, 4] bcast_S1x8x8x4x1_S1x8x8x4x131076_0_1_2_3_4
    (broadcastInDim S1x8x8x4x1 ![0, 1, 2, 3] bcast_S1x8x8x4_S1x8x8x4x1_0_1_2_3 (tops s))))

/-- The weighted sums of the values. -/
def sums (p : FVec Ideal S1x8x8x4x131076 .f32) (v : FVec Ideal S1x131076x8x128 .bf16) : FVec Ideal S1x8x8x4x128 .f32 :=
  Host.dotGeneral dot_S1x8x8x4x131076_S1x131076x8x128_S1x8x8x4x128_4_1_23_3_01_02 none p (extf .f32 v bitsLt_bf16_f32 : FVec Ideal S1x131076x8x128 .f32)

/-- The sums of the weights. -/
def norms (p : FVec Ideal S1x8x8x4x131076 .f32) : FVec Ideal S1x8x8x4 .f32 :=
  Host.reduceAdd p (constant S_ .f32 0x00000000#32) reducesTo_S1x8x8x4x131076_S1x8x8x4_d4 h_S_

/-- The attention's result in the shape returned. -/
def result (p : FVec Ideal S1x8x8x4x131076 .f32) (v : FVec Ideal S1x131076x8x128 .bf16) : Vec Ideal S4x8192 .bf16 :=
  shapeCast S4x8192
    (truncf .bf16
      (shapeCast S1x4x8192
        (transpose S1x4x8x8x128 [0, 3, 1, 2, 4]
          (Host.divf (sums p v) (broadcastInDim S1x8x8x4x128 ![0, 1, 2, 3, 4] bcast_S1x8x8x4x1_S1x8x8x4x128_0_1_2_3_4
            (broadcastInDim S1x8x8x4x1 ![0, 1, 2, 3] bcast_S1x8x8x4_S1x8x8x4x1_0_1_2_3 (norms p))))
          transposes_S1x8x8x4x128_S1x4x8x8x128_0_3_1_2_4)
        shapeCasts_S1x4x8x8x128_S1x4x8192 : FVec Ideal S1x4x8192 .f32) bitsLt_bf16_f32)
    shapeCasts_S1x4x8192_S4x8192

theorem read_y (V : Valuation τ sig (Elt Ideal)) :
    StableHlo.after (List.flatten [hostOps1, hostOps1_1, hostOps1_2]) V (Proc.devRef .tc main_v33) =
      result (weights (scores (V (Proc.devRef .tc main_arg0)) (allRows (V (Proc.devRef .tc main_v0_4)) (V (Proc.devRef .tc main_v0_2)))))
        (allRows (V (Proc.devRef .tc main_v0_5)) (V (Proc.devRef .tc main_v0_3))) := by
  simp only [hostOps1, hostOps1_1, hostOps1_2, List.flatten_cons, List.flatten_nil, List.append_nil, List.cons_append,
        List.nil_append]
  after_reads_simp
  simp -implicitDefEqProofs only [StableHlo.TRef.toBuf, StableHlo.TRef.ofBuf, cast_cast, cast_eq, id]
  rfl

theorem read_k (V : Valuation τ sig (Elt Ideal)) :
    StableHlo.after (List.flatten [hostOps1, hostOps1_1, hostOps1_2]) V (Proc.devRef .tc main_v34) =
      shapeCast S32x128 (V (Proc.devRef .tc main_v0_0) : Vec Ideal S1x4x8x128 .fp8e4m3) shapeCasts_S1x4x8x128_S32x128 := by
  simp only [hostOps1, hostOps1_1, hostOps1_2, List.flatten_cons, List.flatten_nil, List.append_nil, List.cons_append,
        List.nil_append]
  after_reads_simp
  try rfl

theorem read_v (V : Valuation τ sig (Elt Ideal)) :
    StableHlo.after (List.flatten [hostOps1, hostOps1_1, hostOps1_2]) V (Proc.devRef .tc main_v35) =
      shapeCast S32x128 (V (Proc.devRef .tc main_v0_1) : Vec Ideal S1x4x8x128 .fp8e4m3) shapeCasts_S1x4x8x128_S32x128 := by
  simp only [hostOps1, hostOps1_1, hostOps1_2, List.flatten_cons, List.flatten_nil, List.append_nil, List.cons_append,
        List.nil_append]
  after_reads_simp
  try rfl

end Cert.ReferenceIdeal.Value

end
-- ==== Proof.Val.RefBlocks.lean ====
/- The arrays the reference's one-point call leaves, as terms over the arguments. -/
module

public import proofs.«01_k».proof.Proof.Val.RefRead
public import Idealize.ShloMosaic.Lib.Pipeline.ValueKit

@[expose] public section

set_option maxRecDepth 100000

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The arguments, in order. -/
abbrev bX : FVec Ideal S1x4x8192 .bf16 := m ((c : Thread nD τ).loc main_arg0)
abbrev bKn : FVec Ideal S1x4x8x128 .bf16 := m ((c : Thread nD τ).loc main_arg1)
abbrev bVn : FVec Ideal S1x4x8x128 .bf16 := m ((c : Thread nD τ).loc main_arg2)
abbrev bK : IVec S1x131072x8x128 8 := m ((c : Thread nD τ).loc main_arg3)
abbrev bKs : FVec Ideal S8 .f32 := m ((c : Thread nD τ).loc main_arg4)
abbrev bV : IVec S1x131072x8x128 8 := m ((c : Thread nD τ).loc main_arg5)
abbrev bVs : FVec Ideal S8 .f32 := m ((c : Thread nD τ).loc main_arg6)

theorem idx : ∀ t : Fin cfg0.N, win0_0.index t = ![0, 0, 0, 0] ∧ win0_1.index t = ![0, 0, 0, 0] ∧ win0_2.index t = ![0, 0, 0, 0] ∧
    win0_3.index t = ![0] ∧ win0_4.index t = ![0, 0, 0, 0] ∧ win0_5.index t = ![0] :=
  (by decide +kernel : ∀ t : Fin grid0.N, _)

theorem iblk0 : iblk m c 0 t0_0 = bKn m c := by blk_ext! [iblk, V, idx t0_0]
theorem iblk1 : iblk m c 1 t0_0 = bVn m c := by blk_ext! [iblk, V, idx t0_0]
theorem iblk2 : iblk m c 2 t0_0 = bK m c := by blk_ext! [iblk, V, idx t0_0]
theorem iblk3 : iblk m c 3 t0_0 = bKs m c := by blk_ext! [iblk, V, idx t0_0]
theorem iblk4 : iblk m c 4 t0_0 = bV m c := by blk_ext! [iblk, V, idx t0_0]
theorem iblk5 : iblk m c 5 t0_0 = bVs m c := by blk_ext! [iblk, V, idx t0_0]

theorem final6 : (dats m 0 c).arrAt 6 cfg0.N = k0_pay6 (F := Ideal) (bKs m c) (bKn m c) := by
  refine (dats m 0 c).arrAt_eq_of_after_last 6 t0_0 (by decide +kernel) _ fun j => ?_
  blk_simp
  rw [after0_6, iblk0, iblk1, iblk2, iblk3, iblk4, iblk5]
  unfold_out out0_6
  frame_out

theorem final7 : (dats m 0 c).arrAt 7 cfg0.N = k0_pay7 (F := Ideal) (bVs m c) (bVn m c) := by
  refine (dats m 0 c).arrAt_eq_of_after_last 7 t0_0 (by decide +kernel) _ fun j => ?_
  blk_simp
  rw [after0_7, iblk0, iblk1, iblk2, iblk3, iblk4, iblk5]
  unfold_out out0_7
  frame_out

theorem final8 : (dats m 0 c).arrAt 8 cfg0.N = k0_pay8 (F := Ideal) (bKs m c) (bKn m c) := by
  refine (dats m 0 c).arrAt_eq_of_after_last 8 t0_0 (by decide +kernel) _ fun j => ?_
  blk_simp
  rw [after0_8, iblk0, iblk1, iblk2, iblk3, iblk4, iblk5]
  unfold_out out0_8
  frame_out

theorem final9 : (dats m 0 c).arrAt 9 cfg0.N = k0_pay1 (F := Ideal) (k0_pay5 (F := Ideal) (bVs m c)) (k0_pay7 (F := Ideal) (bVs m c) (bVn m c)) := by
  refine (dats m 0 c).arrAt_eq_of_after_last 9 t0_0 (by decide +kernel) _ fun j => ?_
  blk_simp
  rw [after0_9, iblk0, iblk1, iblk2, iblk3, iblk4, iblk5]
  unfold_out out0_9
  frame_out

theorem final10 : (dats m 0 c).arrAt 10 cfg0.N = k0_pay2 (F := Ideal) (k0_pay4 (F := Ideal) (bKs m c)) (bK m c) := by
  refine (dats m 0 c).arrAt_eq_of_after_last 10 t0_0 (by decide +kernel) _ fun j => ?_
  blk_simp
  rw [after0_10, iblk0, iblk1, iblk2, iblk3, iblk4, iblk5]
  unfold_out out0_10
  frame_out

theorem final11 : (dats m 0 c).arrAt 11 cfg0.N = k0_pay3 (F := Ideal) (k0_pay5 (F := Ideal) (bVs m c)) (bV m c) := by
  refine (dats m 0 c).arrAt_eq_of_after_last 11 t0_0 (by decide +kernel) _ fun j => ?_
  blk_simp
  rw [after0_11, iblk0, iblk1, iblk2, iblk3, iblk4, iblk5]
  unfold_out out0_11
  frame_out

end Cert.ReferenceIdeal.Value

end
-- ==== Proof.Val.RefRun.lean ====
/- The reference's run: every result as a term over the arguments. -/
module

public import proofs.«01_k».proof.Proof.Val.RefBlocks

@[expose] public section

set_option maxRecDepth 100000

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg) (c : Dev nD)

/-- The scores of the reference. -/
def refScores : FVec Ideal S1x8x8x4x131076 .f32 :=
  scores (bX m c) (allRows (k0_pay2 (F := Ideal) (k0_pay4 (F := Ideal) (bKs m c)) (bK m c)) (k0_pay8 (F := Ideal) (bKs m c) (bKn m c)))

/-- The values of the reference. -/
def refValues : FVec Ideal S1x131076x8x128 .bf16 :=
  allRows (k0_pay3 (F := Ideal) (k0_pay5 (F := Ideal) (bVs m c)) (bV m c)) (k0_pay1 (F := Ideal) (k0_pay5 (F := Ideal) (bVs m c)) (k0_pay7 (F := Ideal) (bVs m c) (bVn m c)))

/-- Every buffer as the call leaves it. -/
def exit : Valuation τ sig (Elt Ideal) :=
  Pipeline.withArrays (cfgs 0).spec c (V0 m c) fun w => (dats m 0 c).arrAt w (cfgs 0).N

theorem arr_inj : Function.Injective (Pipeline.arrRef spec0) := by decide

theorem exit_arg0 : exit m c (Proc.devRef .tc main_arg0) = bX m c :=
  (Pipeline.withArrays_of_ne _ c (V0 m c) _ main_arg0 (by exact (by decide : ∀ w, Pipeline.arrRef spec0 w ≠ main_arg0))).trans (V_main_arg0 m c)

theorem exit_k : exit m c (Proc.devRef .tc main_v0_0) = k0_pay6 (F := Ideal) (bKs m c) (bKn m c) :=
  (Pipeline.withArrays_arr spec0 arr_inj c (V0 m c) _ 6).trans (final6 m c)
theorem exit_v : exit m c (Proc.devRef .tc main_v0_1) = k0_pay7 (F := Ideal) (bVs m c) (bVn m c) :=
  (Pipeline.withArrays_arr spec0 arr_inj c (V0 m c) _ 7).trans (final7 m c)
theorem exit_kw : exit m c (Proc.devRef .tc main_v0_2) = k0_pay8 (F := Ideal) (bKs m c) (bKn m c) :=
  (Pipeline.withArrays_arr spec0 arr_inj c (V0 m c) _ 8).trans (final8 m c)
theorem exit_vw : exit m c (Proc.devRef .tc main_v0_3) = k0_pay1 (F := Ideal) (k0_pay5 (F := Ideal) (bVs m c)) (k0_pay7 (F := Ideal) (bVs m c) (bVn m c)) :=
  (Pipeline.withArrays_arr spec0 arr_inj c (V0 m c) _ 9).trans (final9 m c)
theorem exit_kc : exit m c (Proc.devRef .tc main_v0_4) = k0_pay2 (F := Ideal) (k0_pay4 (F := Ideal) (bKs m c)) (bK m c) :=
  (Pipeline.withArrays_arr spec0 arr_inj c (V0 m c) _ 10).trans (final10 m c)
theorem exit_vc : exit m c (Proc.devRef .tc main_v0_5) = k0_pay3 (F := Ideal) (k0_pay5 (F := Ideal) (bVs m c)) (bV m c) :=
  (Pipeline.withArrays_arr spec0 arr_inj c (V0 m c) _ 11).trans (final11 m c)

theorem tail_y : Pipeline.afterTail₀ cfgs (dats m) 0 (V0 m) [hostOps1, hostOps1_1, hostOps1_2] c main_v33 =
    result (weights (refScores m c)) (refValues m c) := by
  unfold Pipeline.afterTail₀
  refine (read_y (exit m c)).trans ?_
  rw [exit_arg0, exit_kc, exit_kw, exit_vc, exit_vw]
  rfl

theorem tail_k : Pipeline.afterTail₀ cfgs (dats m) 0 (V0 m) [hostOps1, hostOps1_1, hostOps1_2] c main_v34 =
    shapeCast S32x128 (k0_pay6 (F := Ideal) (bKs m c) (bKn m c)) shapeCasts_S1x4x8x128_S32x128 := by
  unfold Pipeline.afterTail₀
  refine (read_k (exit m c)).trans ?_
  rw [exit_k]

theorem tail_v : Pipeline.afterTail₀ cfgs (dats m) 0 (V0 m) [hostOps1, hostOps1_1, hostOps1_2] c main_v35 =
    shapeCast S32x128 (k0_pay7 (F := Ideal) (bVs m c) (bVn m c)) shapeCasts_S1x4x8x128_S32x128 := by
  unfold Pipeline.afterTail₀
  refine (read_v (exit m c)).trans ?_
  rw [exit_v]

/-- Every run of the reference ends with the three computed results as stated and the arguments kept. -/
theorem run : θ_run defs (onTc (τ := τ) (main (F := Ideal))) ⟨m, fun _ => 0, ρ⟩ (fun r => ∀ c : Dev nD,
      r.2.mem ((c.tc : Thread nD τ).loc main_v33) = result (weights (refScores m c)) (refValues m c)
      ∧ r.2.mem ((c.tc : Thread nD τ).loc main_v34) = shapeCast S32x128 (k0_pay6 (F := Ideal) (bKs m c) (bKn m c)) shapeCasts_S1x4x8x128_S32x128
      ∧ r.2.mem ((c.tc : Thread nD τ).loc main_v35) = shapeCast S32x128 (k0_pay7 (F := Ideal) (bVs m c) (bVn m c)) shapeCasts_S1x4x8x128_S32x128
      ∧ r.2.mem ((c.tc : Thread nD τ).loc main_arg4) = m ((c.tc : Thread nD τ).loc main_arg4)
      ∧ r.2.mem ((c.tc : Thread nD τ).loc main_arg6) = m ((c.tc : Thread nD τ).loc main_arg6)) :=
  (θ_run defs _ _).mono (fun _ h c =>
    ⟨((h c).2 main_v33 (Pipeline.mem_restRefs_of main_v33 (by decide) (by decide))).trans (tail_y m c),
     ((h c).2 main_v34 (Pipeline.mem_restRefs_of main_v34 (by decide) (by decide))).trans (tail_k m c),
     ((h c).2 main_v35 (Pipeline.mem_restRefs_of main_v35 (by decide) (by decide))).trans (tail_v m c),
     ((h c).1 3).trans (((dats m 0 c).arrAt_in 3 rfl _).trans ((A_eq m c 3).trans (V_main_arg4 m c))),
     ((h c).1 5).trans (((dats m 0 c).arrAt_in 5 rfl _).trans ((A_eq m c 5).trans (V_main_arg6 m c)))⟩) (run_main m ρ)

end Cert.ReferenceIdeal.Value

end
-- ==== Proof.Val.RefValue.lean ====
/- The reference's arrays, entry by entry. -/
module

public import proofs.«01_k».proof.Proof.Val.RefRun
public import Idealize.ShloMosaic.Lib.Pointwise

@[expose] public section

set_option maxRecDepth 100000

noncomputable section

namespace Cert.ReferenceIdeal.Value

open Cert.ReferenceIdeal Cert.ReferenceIdeal.Gen Idealize.ShloMosaic Cert.KernelIdeal.Step

theorem ofBits_128 : Ideal.ofBits .f32 0x43000000#32 = ((128 : ℝ) : EReal) := by
  simp [Ideal.ofBits, Ideal.ieee, -EReal.coe_mul]; norm_num

theorem codes_k (s : FVec Ideal S8 .f32) (x : FVec Ideal S1x4x8x128 .bf16) (t : Fin 4) (h : Fin 8) (d : Fin 128) :
    k0_pay6 (F := Ideal) s x (ix4 0 t h d) = clip8 (x (ix4 0 t h d)) (s (ix1 h)) := by
  unfold k0_pay6 k0_pay4
  pointwise
  rw [ofBits_448, ofBits_neg448]
  rfl

theorem codes_v (s : FVec Ideal S8 .f32) (x : FVec Ideal S1x4x8x128 .bf16) (t : Fin 4) (h : Fin 8) (d : Fin 128) :
    k0_pay7 (F := Ideal) s x (ix4 0 t h d) = clip8 (x (ix4 0 t h d)) (s (ix1 h)) := codes_k s x t h d

theorem rows_k (s : FVec Ideal S8 .f32) (x : FVec Ideal S1x4x8x128 .bf16) (t : Fin 4) (h : Fin 8) (d : Fin 128) :
    k0_pay8 (F := Ideal) s x (ix4 0 t h d) = clip8 (x (ix4 0 t h d)) (s (ix1 h)) * s (ix1 h) := by
  unfold k0_pay8 k0_pay4
  pointwise
  rw [codes_k]

theorem cache_k (s : FVec Ideal S8 .f32) (x : IVec S1x131072x8x128 8) (t : Fin 131072) (h : Fin 8) (d : Fin 128) :
    k0_pay2 (F := Ideal) (k0_pay4 (F := Ideal) s) x (ix4 0 t h d) = Ideal.ofBits .fp8e4m3 (x (ix4 0 t h d)) * s (ix1 h) := by
  unfold k0_pay2 k0_pay4
  pointwise

theorem allRows_apply (a : FVec Ideal S1x131072x8x128 .bf16) (b : FVec Ideal S1x4x8x128 .bf16) (T : Fin 131076) (h : Fin 8) (d : Fin 128) :
    allRows a b (ix4 0 T h d) = if hT : T.val < 131072 then a (ix4 0 ⟨T, hT⟩ h d) else b (ix4 0 ⟨T - 131072, by omega⟩ h d) := by
  unfold allRows
  pointwise

theorem visible_apply (s : Fin 4) (T : Fin 131076) :
    visible (ix2 s T) = BitVec.ofBool (decide (T.val ≤ 131072 + s.val)) := by
  unfold visible
  pointwise
  have hT := T.isLt
  have hs := s.isLt
  have e : IntOp.addi (131072#32) (BitVec.ofNat 32 s) = BitVec.ofNat 32 (131072 + s) := (BitVec.ofNat_add ..).symm
  rw [e]
  show BitVec.ofBool (decide _) = _
  congr 2
  rw [BitVec.toInt_ofNat', BitVec.toInt_ofNat', Int.bmod_eq_of_le (by omega) (by omega), Int.bmod_eq_of_le (by omega) (by omega)]
  exact propext (by omega)

theorem scores_apply (x : FVec Ideal S1x4x8192 .bf16) (k : FVec Ideal S1x131076x8x128 .bf16) (h g : Fin 8) (s : Fin 4) (T : Fin 131076) :
    scores x k (ix5 0 h g s T) = if T.val ≤ 131072 + s.val then
      Ideal.div (∑ d : Fin 128, k (ix4 0 T h d) * x (ix3 0 s ⟨1024 * h + 128 * g + d, by omega⟩)) ((Real.sqrt 128 : ℝ) : EReal) else ⊥ := by
  unfold scores
  pointwise
  rw [visible_apply, ofBits_128, ofBits_bot, Ideal.sqrt_coe, if_neg (by norm_num)]
  by_cases hv : T.val ≤ 131072 + s.val
  · rw [if_pos hv, decide_eq_true hv]
    show Ideal.div _ _ = Ideal.div _ _
    refine congrArg (fun a => Ideal.div a ((Real.sqrt 128 : ℝ) : EReal)) (Finset.sum_congr rfl fun d _ => ?_)
    congr 3
    apply Fin.ext
    show h.val * 1024 + g.val * 128 + d.val = 1024 * h.val + 128 * g.val + d.val
    omega
  · rw [if_neg hv, decide_eq_false hv]
    rfl

theorem tops_apply (s : FVec Ideal S1x8x8x4x131076 .f32) (h g : Fin 8) (i : Fin 4) :
    tops s (ix4 0 h g i) = (Finset.univ : Finset (Fin 131076)).fold max ⊥ fun T => s (ix5 0 h g i T) := by
  unfold tops
  pointwise
  rw [ofBits_bot]

theorem weights_apply (s : FVec Ideal S1x8x8x4x131076 .f32) (h g : Fin 8) (i : Fin 4) (T : Fin 131076) :
    weights s (ix5 0 h g i T) = Ideal.exp (s (ix5 0 h g i T) - tops s (ix4 0 h g i)) := by
  unfold weights
  pointwise

theorem sums_apply (p : FVec Ideal S1x8x8x4x131076 .f32) (v : FVec Ideal S1x131076x8x128 .bf16) (h g : Fin 8) (i : Fin 4) (d : Fin 128) :
    sums p v (ix5 0 h g i d) = ∑ T : Fin 131076, p (ix5 0 h g i T) * v (ix4 0 T h d) := by
  unfold sums
  pointwise

theorem norms_apply (p : FVec Ideal S1x8x8x4x131076 .f32) (h g : Fin 8) (i : Fin 4) :
    norms p (ix4 0 h g i) = ∑ T : Fin 131076, p (ix5 0 h g i T) := by
  unfold norms
  pointwise

theorem result_apply (p : FVec Ideal S1x8x8x4x131076 .f32) (v : FVec Ideal S1x131076x8x128 .bf16) (h g : Fin 8) (i : Fin 4) (d : Fin 128) :
    result p v (ix2 i ⟨1024 * h + 128 * g + d, by omega⟩) = Ideal.div (sums p v (ix5 0 h g i d)) (norms p (ix4 0 h g i)) := by
  unfold result
  pointwise

end Cert.ReferenceIdeal.Value

end
-- ==== Proof.Val.Softmax.lean ====
/- Arithmetic of the weighted totals: taking a factor out of a total, and a softmax whose weights are a common multiple of
   powers of two. -/
module

public import proofs.«01_k».proof.Proof.Val.Point

@[expose] public section

noncomputable section

namespace Cert.KernelIdeal.Step

open Idealize.ShloMosaic

/-- A real factor spreads over a sum of two values neither of which is `⊤`. -/
theorem add_mul_real {x y : EReal} (hx : x ≠ ⊤) (hy : y ≠ ⊤) (c : ℝ) : (x + y) * (c : EReal) = x * c + y * c := by
  induction x with
  | top => exact absurd rfl hx
  | bot =>
    induction y with
    | top => exact absurd rfl hy
    | bot =>
      rcases lt_trichotomy c 0 with h | rfl | h
      · simp [EReal.bot_mul_coe_of_neg h]
      · simp
      · simp [EReal.bot_mul_coe_of_pos h]
    | coe b =>
      rcases lt_trichotomy c 0 with h | rfl | h
      · rw [EReal.bot_add, EReal.bot_mul_coe_of_neg h, ← EReal.coe_mul, EReal.top_add_coe]
      · simp
      · rw [EReal.bot_add, EReal.bot_mul_coe_of_pos h, EReal.bot_add]
  | coe a =>
    induction y with
    | top => exact absurd rfl hy
    | bot =>
      rcases lt_trichotomy c 0 with h | rfl | h
      · rw [EReal.add_bot, EReal.bot_mul_coe_of_neg h, ← EReal.coe_mul, EReal.coe_add_top]
      · simp
      · rw [EReal.add_bot, EReal.bot_mul_coe_of_pos h, EReal.add_bot]
    | coe b => norm_cast; ring

theorem add_ne_top' {x y : EReal} (hx : x ≠ ⊤) (hy : y ≠ ⊤) : x + y ≠ ⊤ := EReal.add_ne_top hx hy

theorem sum_ne_top {ι : Type*} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-- A real factor spreads over a sum of values none of which is `⊤`. -/
theorem sum_mul_of_ne_top {ι : Type*} (s : Finset ι) (f : ι → EReal) (h : ∀ i, f i ≠ ⊤) (c : ℝ) :
    (∑ i ∈ s, f i) * (c : EReal) = ∑ i ∈ s, f i * (c : EReal) := by
  classical
  induction s using Finset.induction_on with
  | empty => simp
  | insert a s ha ih => rw [Finset.sum_insert ha, Finset.sum_insert ha, add_mul_real (h a) (sum_ne_top s f h), ih]

theorem weight_ne_top {w : ℝ} (hw : 0 < w) {x : EReal} (hx : x ≠ ⊤) : (w : EReal) * x ≠ ⊤ := by
  induction x with
  | top => exact absurd rfl hx
  | bot => rw [EReal.coe_mul_bot_of_pos hw]; exact bot_ne_top
  | coe a => rw [← EReal.coe_mul]; exact EReal.coe_ne_top _

theorem two_pow_pos (a : ℝ) : (0 : ℝ) < (2 : ℝ) ^ a := Real.rpow_pos_of_pos two_pos a

/-- A scale common to all the values is a factor of the total. -/
theorem total_mul (tl : ℕ → ℕ → ℝ) (W : ℕ → EReal) (hW : ∀ t, W t ≠ ⊤) (r n : ℕ) (μ c : ℝ) :
    total tl (fun t => W t * (c : EReal)) r n μ = total tl W r n μ * (c : EReal) := by
  have e : ∀ t, (((2 : ℝ) ^ (tl r t - μ) : ℝ) : EReal) * W t ≠ ⊤ := fun t => weight_ne_top (two_pow_pos _) (hW t)
  unfold total
  rw [add_mul_real (sum_ne_top _ _ fun j => e _) (sum_ne_top _ _ fun j => e _), sum_mul_of_ne_top _ _ (fun j => e _),
    sum_mul_of_ne_top _ _ (fun j => e _)]
  simp only [mul_assoc]

/-- The total of the weights alone is a positive real. -/
theorem total_one_pos (tl : ℕ → ℕ → ℝ) (r n : ℕ) (μ : ℝ) : ∃ L : ℝ, 0 < L ∧ total tl (fun _ => 1) r n μ = (L : EReal) := by
  refine ⟨(∑ j ∈ Finset.range (r % 4 + 1), (2 : ℝ) ^ (tl r (131072 + j) - μ)) + ∑ t ∈ Finset.range (2048 * n), (2 : ℝ) ^ (tl r t - μ), ?_, ?_⟩
  · exact add_pos_of_pos_of_nonneg (Finset.sum_pos (fun j _ => two_pow_pos _) ⟨0, by simp⟩) (Finset.sum_nonneg fun j _ => (two_pow_pos _).le)
  · unfold total
    simp only [mul_one]
    rw [EReal.coe_add, coe_sum, coe_sum]

/-- A sum over all tokens whose weights are `ρ` times a power of two up to the row's position and `0` after it. -/
theorem sum_weights (tl : ℕ → ℕ → ℝ) (W w : ℕ → EReal) (r : ℕ) (μ ρ : ℝ) (hρ : 0 ≤ ρ)
    (hv : ∀ T, T ≤ 131072 + r % 4 → w T = (ρ : EReal) * (((2 : ℝ) ^ (tl r T - μ) : ℝ) : EReal))
    (hn : ∀ T, 131072 + r % 4 < T → w T = 0) :
    ∑ T : Fin 131076, w T * W T = total tl W r 64 μ * (ρ : EReal) := by
  have hs : r % 4 < 4 := Nat.mod_lt _ (by norm_num)
  rw [Fin.sum_univ_eq_sum_range (fun T => w T * W T) 131076]
  have e1 : Finset.range 131076 = Finset.range (131072 + 4) := rfl
  rw [e1, Finset.sum_range_add]
  have e2 : ∑ j ∈ Finset.range 4, w (131072 + j) * W (131072 + j) = ∑ j ∈ Finset.range (r % 4 + 1), w (131072 + j) * W (131072 + j) := by
    symm
    refine Finset.sum_subset (Finset.range_subset_range.mpr (by omega)) fun j _ hj => ?_
    rw [Finset.mem_range, not_lt] at hj
    rw [hn _ (by omega), zero_mul]
  rw [e2]
  unfold total
  rw [EReal.right_distrib_of_nonneg_of_ne_top (by exact_mod_cast hρ) (EReal.coe_ne_top ρ), sum_mul_real _ _ _ hρ, sum_mul_real _ _ _ hρ, add_comm]
  refine congrArg₂ (· + ·) (Finset.sum_congr rfl fun j hj => ?_) (Finset.sum_congr rfl fun t ht => ?_)
  · rw [hv _ (by have := Finset.mem_range.mp hj; omega), mul_assoc, mul_comm]
  · rw [hv _ (by have := Finset.mem_range.mp ht; omega), mul_assoc, mul_comm]

/-- A factor common to numerator and denominator cancels. -/
theorem div_scaled (x : EReal) {L ρ : ℝ} (hL : 0 < L) (hρ : 0 < ρ) :
    Ideal.div (x * (ρ : EReal)) ((L : EReal) * (ρ : EReal)) = Ideal.div x (L : EReal) := by
  rw [← EReal.coe_mul, Ideal.div_coe (mul_pos hL hρ).ne', Ideal.div_coe hL.ne', mul_assoc, ← EReal.coe_mul]
  congr 2
  field_simp

/-- `exp` of a score less the greatest, through powers of two. -/
theorem exp_weight (t μ M : ℝ) : Ideal.exp (((t * Real.log 2 : ℝ) : EReal) - (M : EReal)) =
    ((Real.exp (μ * Real.log 2 - M) : ℝ) : EReal) * (((2 : ℝ) ^ (t - μ) : ℝ) : EReal) := by
  rw [← EReal.coe_sub, Ideal.exp_coe, ← EReal.coe_mul, Real.rpow_def_of_pos two_pos, ← Real.exp_add]
  congr 2
  ring

end Cert.KernelIdeal.Step

end
-- ==== Proof.Val.Match.lean ====
/- The reference's results, stated with the quantities of the kernel's results. -/
module

public import proofs.«01_k».proof.Proof.Val.RefValue
public import proofs.«01_k».proof.Proof.Val.Softmax

@[expose] public section

set_option maxRecDepth 100000

noncomputable section

namespace Cert.ReferenceIdeal.Value

open Cert.ReferenceIdeal Cert.ReferenceIdeal.Gen Idealize.ShloMosaic Cert.KernelIdeal.Step

variable (x : FVec Ideal S1x4x8192 .bf16) (kn vn : FVec Ideal S1x4x8x128 .bf16) (kb vb : IVec S1x131072x8x128 8) (ks vs : FVec Ideal S8 .f32)

/-- All the keys' rows. -/
def keys : FVec Ideal S1x131076x8x128 .bf16 :=
  allRows (k0_pay2 (F := Ideal) (k0_pay4 (F := Ideal) ks) kb) (k0_pay8 (F := Ideal) ks kn)

/-- All the values' rows. -/
def values : FVec Ideal S1x131076x8x128 .bf16 :=
  allRows (k0_pay3 (F := Ideal) (k0_pay5 (F := Ideal) vs) vb) (k0_pay1 (F := Ideal) (k0_pay5 (F := Ideal) vs) (k0_pay7 (F := Ideal) vs vn))

/-- A row read is the token's code times its head's scale. -/
theorem keys_apply (T : Fin 131076) (h : Fin 8) (d : Fin 128) :
    keys kn kb ks (ix4 0 T h d) = codes kn kb ks T h d * ks (ix1 h) := by
  unfold keys codes
  rw [allRows_apply, dif_pos h.isLt]
  by_cases hT : T.val < 131072
  · rw [dif_pos hT, dif_pos hT]
    exact cache_k ..
  · rw [dif_neg hT, dif_neg hT, dif_pos T.isLt]
    exact rows_k ..

theorem values_eq : values vn vb vs = keys vn vb vs := rfl

variable {x kb ks vs}

/-- A visible token's score is the kernel's logit times `ln 2`. -/
theorem score_visible (H : Tame x kb ks vs) (h g : Fin 8) (s : Fin 4) (T : Fin 131076) (hv : T.val ≤ 131072 + s.val) :
    scores x (keys kn kb ks) (ix5 0 h g s T) = ((lg x kn kb ks (32 * h + 4 * g + s) T * Real.log 2 : ℝ) : EReal) := by
  rw [scores_apply, if_pos hv]
  have hr : 32 * h.val + 4 * g.val + s.val < 256 := by omega
  have e := H.logit kn (32 * h + 4 * g + s) T
  unfold logit factor at e
  rw [dif_pos hr] at e
  obtain ⟨k, hk⟩ := H.ks (ix1 h)
  have eh : (32 * h.val + 4 * g.val + s.val) / 32 = h.val := by omega
  have ehf : (⟨(32 * h.val + 4 * g.val + s.val) / 32, by omega⟩ : Fin 8) = h := Fin.ext eh
  rw [ehf, hk, eh] at e
  choose q hq using fun d => H.query (32 * h + 4 * g + s) d
  choose K hK using fun d => H.codes kn T h d
  have eq : ∀ d : Fin 128, x (ix3 0 s ⟨1024 * h + 128 * g + d, by omega⟩) = (q d : EReal) := fun d => by
    rw [← hq d]
    unfold query
    rw [dif_pos hr]
    congr 2
    · apply Fin.ext; show s.val = (32 * h.val + 4 * g.val + s.val) % 4; omega
    · apply Fin.ext; show 1024 * h.val + 128 * g.val + d.val = 128 * ((32 * h.val + 4 * g.val + s.val) / 4) + d.val; omega
  simp only [hq, hK, ← EReal.coe_mul, ← coe_sum] at e
  simp only [keys_apply, eq, hK, hk, ← EReal.coe_mul, ← coe_sum]
  have e' := EReal.coe_eq_coe_iff.mp e
  have h2 : Real.log 2 ≠ 0 := (Real.log_pos one_lt_two).ne'
  have h3 : Real.sqrt 128 ≠ 0 := (Real.sqrt_pos.mpr (by norm_num)).ne'
  rw [Ideal.div_coe h3, ← EReal.coe_mul, ← e']
  unfold kappa
  congr 1
  have e3 : ∑ d, K d * k * q d = (∑ d, q d * K d) * k := by
    rw [Finset.sum_mul]; exact Finset.sum_congr rfl fun d _ => by ring
  rw [e3]
  field_simp

theorem score_hidden (h g : Fin 8) (s : Fin 4) (T : Fin 131076) (hv : ¬ T.val ≤ 131072 + s.val) :
    scores x (keys kn kb ks) (ix5 0 h g s T) = ⊥ := by
  rw [scores_apply, if_neg hv]

/-- The greatest score of a row is a real. -/
theorem tops_real (H : Tame x kb ks vs) (h g : Fin 8) (s : Fin 4) : IsReal (tops (scores x (keys kn kb ks)) (ix4 0 h g s)) := by
  rw [tops_apply]
  refine isReal_fold_max ⟨⟨0, by norm_num⟩, Finset.mem_univ _, ?_⟩ fun T _ => ?_
  · rw [score_visible kn H h g s _ (Nat.zero_le _)]
    exact isReal_coe _
  · by_cases hv : T.val ≤ 131072 + s.val
    · rw [score_visible kn H h g s T hv]; exact EReal.coe_ne_top _
    · rw [score_hidden kn h g s T hv]; exact bot_ne_top

/-- The reference's attention, at the kernel's totals. -/
theorem result_total (H : Tame x kb ks vs) (h g : Fin 8) (s : Fin 4) (d : Fin 128) (r : ℕ) (hr : r = 32 * h + 4 * g + s) (μ : ℝ) :
    result (weights (scores x (keys kn kb ks))) (values vn vb vs) (ix2 s ⟨1024 * h + 128 * g + d, by omega⟩) =
      Ideal.div (total (lg x kn kb ks) (fun t => codes vn vb vs t h d) r 64 μ * vs (ix1 h)) (total (lg x kn kb ks) (fun _ => 1) r 64 μ) := by
  have hs : r % 4 = s.val := by omega
  obtain ⟨M, hM⟩ := tops_real kn H h g s
  obtain ⟨v, hv⟩ := H.vs (ix1 h)
  let p := weights (scores x (keys kn kb ks))
  let w : ℕ → EReal := fun T => if hT : T < 131076 then p (ix5 0 h g s ⟨T, hT⟩) else 0
  have hw : ∀ T : Fin 131076, p (ix5 0 h g s T) = w T := fun T => by simp only [w]; rw [dif_pos T.isLt]
  have hvis : ∀ T, T ≤ 131072 + r % 4 → w T = ((Real.exp (μ * Real.log 2 - M) : ℝ) : EReal) * (((2 : ℝ) ^ (lg x kn kb ks r T - μ) : ℝ) : EReal) := by
    intro T hT
    have hT' : T < 131076 := by omega
    simp only [w, p]
    rw [dif_pos hT', weights_apply, hM, score_visible kn H h g s ⟨T, hT'⟩ (by show T ≤ _; omega), ← hr]
    exact exp_weight _ _ _
  have hhid : ∀ T, 131072 + r % 4 < T → w T = 0 := by
    intro T hT
    simp only [w, p]
    split_ifs with hT'
    · rw [weights_apply, hM, score_hidden kn h g s ⟨T, hT'⟩ (by show ¬ T ≤ _; omega)]
      rw [EReal.bot_sub, Ideal.exp_bot]
    · rfl
  have hρ : (0 : ℝ) < Real.exp (μ * Real.log 2 - M) := Real.exp_pos _
  obtain ⟨L, hL, eL⟩ := total_one_pos (lg x kn kb ks) r 64 μ
  rw [result_apply, sums_apply, norms_apply]
  have e1 : ∑ T : Fin 131076, p (ix5 0 h g s T) * values vn vb vs (ix4 0 T h d) =
      ∑ T : Fin 131076, w T * (fun t : ℕ => codes vn vb vs t h d * (v : EReal)) T :=
    Finset.sum_congr rfl fun T _ => by rw [hw, values_eq, keys_apply, hv]
  have e2 : ∑ T : Fin 131076, p (ix5 0 h g s T) = ∑ T : Fin 131076, w T * (fun _ : ℕ => (1 : EReal)) T :=
    Finset.sum_congr rfl fun T _ => by rw [hw, mul_one]
  refine (congrArg₂ Ideal.div
    (e1.trans (sum_weights _ (fun t : ℕ => codes vn vb vs t h d * (v : EReal)) w r μ _ hρ.le hvis hhid))
    (e2.trans (sum_weights _ (fun _ : ℕ => (1 : EReal)) w r μ _ hρ.le hvis hhid))).trans ?_
  rw [eL, total_mul _ (fun t : ℕ => codes vn vb vs t h d) (fun t => codes_ne_top vn vb vs t h d), hv]
  exact div_scaled _ hL hρ

/-- The codes returned. -/
theorem codes_rows (s : FVec Ideal S8 .f32) (x : FVec Ideal S1x4x8x128 .bf16) (u : Fin 32) (d : Fin 128) :
    shapeCast S32x128 (k0_pay6 (F := Ideal) s x) shapeCasts_S1x4x8x128_S32x128 (ix2 u d) =
      clip8 (x (ix4 0 ⟨u / 8, by omega⟩ ⟨u % 8, by omega⟩ d)) (s (ix1 ⟨u % 8, by omega⟩)) := by
  rw [shapeCast_apply _ _ _ (ix4 0 ⟨u / 8, by omega⟩ ⟨u % 8, by omega⟩ d) (by
    rw [Shape.rowMajor_val_four, Shape.rowMajor_val_two]
    show ((0 * 4 + u.val / 8) * 8 + u.val % 8) * 128 + d.val = u.val * 128 + d.val; omega)]
  exact codes_k ..

end Cert.ReferenceIdeal.Value

end
-- ==== Proof.Val.PreTame.lean ====
/- What the precondition says, entry by entry. -/
module

public import proofs.«01_k».proof.Proof.Val.Spec
public import proofs.«01_k».proof.Pre_tame

public import Idealize.ShloMosaic.Lib.Pointwise

@[expose] public section

set_option maxRecDepth 100000

noncomputable section

namespace Cert.KernelIdeal.Step

open Idealize.ShloMosaic

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- A value whose magnitude is below `⊤` is a real. -/
theorem real_of_abs_lt (a : EReal) (h : BitVec.ofBool (decide (max a (-a) < ⊤)) = 1#1) : IsReal a := by
  have h' : max a (-a) < ⊤ := by
    by_contra hc
    rw [decide_eq_false hc] at h
    exact absurd h (by decide)
  induction a with
  | top => simp at h'
  | bot => simp at h'
  | coe a => exact isReal_coe a

theorem ne_of_cmpi (a b : BitVec 8) (h : IntOp.cmpi .ne a b = 1#1) : a ≠ b := by
  rintro rfl
  exact absurd h (by show ¬ BitVec.ofBool (a != a) = 1#1; simp)

variable (x : FVec Ideal Cert.Pre_tame.S1x4x8192 .bf16) (kn vn : FVec Ideal Cert.Pre_tame.S1x4x8x128 .bf16)
  (k v : IVec Cert.Pre_tame.S1x131072x8x128 8) (ks vs : FVec Ideal Cert.Pre_tame.S8 .f32)

/-- The precondition's five lines give what the value proofs ask of the arguments. -/
theorem tame_of_pre [Cert.Pre_tame.Facts]
    (hx : (Cert.Pre_tame.fn (F := Ideal) x kn vn k ks v vs).1 = fun _ => 1#1)
    (hks : (Cert.Pre_tame.fn (F := Ideal) x kn vn k ks v vs).2.1 = fun _ => 1#1)
    (hvs : (Cert.Pre_tame.fn (F := Ideal) x kn vn k ks v vs).2.2.1 = fun _ => 1#1)
    (hpos : (Cert.Pre_tame.fn (F := Ideal) x kn vn k ks v vs).2.2.2.1 = fun _ => 1#1)
    (hneg : (Cert.Pre_tame.fn (F := Ideal) x kn vn k ks v vs).2.2.2.2 = fun _ => 1#1) : Tame x k ks vs where
  x i := by
    have e := congrFun hx i
    unfold Cert.Pre_tame.fn at e
    pointwise at e
    rw [inf_bf16] at e
    exact real_of_abs_lt _ e
  ks i := by
    have e := congrFun hks i
    unfold Cert.Pre_tame.fn at e
    pointwise at e
    rw [inf_f32] at e
    exact real_of_abs_lt _ e
  vs i := by
    have e := congrFun hvs i
    unfold Cert.Pre_tame.fn at e
    pointwise at e
    rw [inf_f32] at e
    exact real_of_abs_lt _ e
  pos i := by
    have e := congrFun hpos i
    unfold Cert.Pre_tame.fn at e
    pointwise at e
    exact ne_of_cmpi _ _ e
  neg i := by
    have e := congrFun hneg i
    unfold Cert.Pre_tame.fn at e
    pointwise at e
    exact ne_of_cmpi _ _ e

end Cert.KernelIdeal.Step

end
-- ==== Proof.lean ====
module

public import proofs.«01_k».proof.Defs
public import proofs.«01_k».proof.Proof.Gen.Kernel
public import proofs.«01_k».proof.Proof.Run.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tame
public import proofs.«01_k».proof.Proof.Val.Sweep
public import proofs.«01_k».proof.Proof.Val.Match
public import proofs.«01_k».proof.Proof.Val.PreTame

@[expose] public section

noncomputable section

namespace Cert.Proof

open Idealize.ShloMosaic Idealize.ShloMosaic.TcCoe Idealize.SL.Sem

section Results

open Cert.KernelIdeal.Value Cert.KernelIdeal.Step

variable (m : (ℓ : Loc Cert.KernelIdeal.nD Cert.KernelIdeal.τ Cert.KernelIdeal.sig) → Buf (Elt Ideal) ℓ) (c : Dev Cert.KernelIdeal.nD)
  (H : Tame (aX m c) (aK m c) (aKs m c) (aVs m c))

/-- The attention: the reference's term over the kernel's arguments. -/
abbrev refY : Vec Ideal Cert.KernelIdeal.S4x8192 .bf16 :=
  Cert.ReferenceIdeal.Value.result
    (Cert.ReferenceIdeal.Value.weights (Cert.ReferenceIdeal.Value.scores (aX m c) (Cert.ReferenceIdeal.Value.keys (aKn m c) (aK m c) (aKs m c))))
    (Cert.ReferenceIdeal.Value.values (aVn m c) (aV m c) (aVs m c))

/-- The codes of new rows: the reference's term. -/
abbrev refCodes (s : Vec Ideal Cert.KernelIdeal.S8 .f32) (x : Vec Ideal Cert.KernelIdeal.S1x4x8x128 .bf16) : Vec Ideal Cert.KernelIdeal.S32x128 .fp8e4m3 :=
  shapeCast Cert.ReferenceIdeal.S32x128 (Cert.ReferenceIdeal.Gen.k0_pay6 (F := Ideal) s x) Cert.ReferenceIdeal.Gen.shapeCasts_S1x4x8x128_S32x128

include H

/-- The kernel's attention is the reference's. -/
theorem attention : G7 m c = refY m c := by
  obtain ⟨-, -, M, l, a, ⟨μ, -, hl, ha⟩, hy⟩ := last m c H
  funext i
  rw [eq_ix2 i]
  obtain ⟨s, hs⟩ : ∃ s : Fin 4, s = i 0 := ⟨_, rfl⟩
  obtain ⟨n, hn⟩ : ∃ n : Fin 8192, n = i 1 := ⟨_, rfl⟩
  rw [← hs, ← hn]
  let h : Fin 8 := ⟨n / 1024, by omega⟩
  let g : Fin 8 := ⟨n / 128 % 8, by omega⟩
  let d : Fin 128 := ⟨n % 128, by omega⟩
  let hq : Fin 64 := ⟨n / 128, by omega⟩
  have e1 : n = ⟨128 * hq + d, by omega⟩ := Fin.ext (by show n.val = 128 * (n.val / 128) + n.val % 128; omega)
  have e2 : n = ⟨1024 * h + 128 * g + d, by omega⟩ :=
    Fin.ext (by show n.val = 1024 * (n.val / 1024) + 128 * (n.val / 128 % 8) + n.val % 128; omega)
  have y1 := hy s hq d
  rw [hl, ha] at y1
  have y2 := Cert.ReferenceIdeal.Value.result_total (aKn m c) (aVn m c) (aV m c) H h g s d (4 * hq + s)
    (by show 4 * (n.val / 128) + s.val = 32 * (n.val / 1024) + 4 * (n.val / 128 % 8) + s.val; omega) (μ ⟨4 * hq + s, by omega⟩)
  have e3 : (⟨hq / 8, by omega⟩ : Fin 8) = h := Fin.ext (by show n.val / 128 / 8 = n.val / 1024; omega)
  have e4 : (4 * hq.val + s.val) / 32 = h.val := by show (4 * (n.val / 128) + s.val) / 32 = n.val / 1024; omega
  have e5 : (⟨(4 * hq.val + s.val) / 32, by omega⟩ : Fin 8) = h := Fin.ext e4
  have y3 : G7 m c (ix2 s n) = _ := (congrArg (fun j => G7 m c (ix2 s j)) e1).trans y1
  have y4 : refY m c (ix2 s n) = _ := (congrArg (fun j => refY m c (ix2 s j)) e2).trans y2
  rw [y3, y4]
  rw [e3]
  simp only [e4]

/-- The kernel's codes of the new keys are the reference's. -/
theorem key_codes : G8 m c = refCodes (aKs m c) (aKn m c) := by
  funext i
  rw [eq_ix2 i]
  exact ((last m c H).1 (i 0) (i 1)).trans ((codes_new _ _ _ _ _).trans (Cert.ReferenceIdeal.Value.codes_rows (aKs m c) (aKn m c) (i 0) (i 1)).symm)

/-- The kernel's codes of the new values are the reference's. -/
theorem value_codes : G9 m c = refCodes (aVs m c) (aVn m c) := by
  funext i
  rw [eq_ix2 i]
  exact ((last m c H).2.1 (i 0) (i 1)).trans ((codes_new _ _ _ _ _).trans (Cert.ReferenceIdeal.Value.codes_rows (aVs m c) (aVn m c) (i 0) (i 1)).symm)

end Results

/-- Under the precondition the two programs end with equal results: the attention, the new codes and the scales. -/
theorem algebraic : Cert.algebraic_KernelIdeal_ReferenceIdeal_pre_tame := by
  intro m g m' g' pre agree
  have H : ∀ c, Cert.KernelIdeal.Step.Tame (Cert.KernelIdeal.Value.aX m c) (Cert.KernelIdeal.Value.aK m c)
      (Cert.KernelIdeal.Value.aKs m c) (Cert.KernelIdeal.Value.aVs m c) := fun c =>
    Cert.KernelIdeal.Step.tame_of_pre _ _ _ _ _ _ _ (pre c).1 (pre c).2.1 (pre c).2.2.1 (pre c).2.2.2.1 (pre c).2.2.2.2
  refine ⟨fun c => refY m c, fun c => refCodes (Cert.KernelIdeal.Value.aKs m c) (Cert.KernelIdeal.Value.aKn m c),
    fun c => Cert.KernelIdeal.Value.aKs m c,
    fun c => refCodes (Cert.KernelIdeal.Value.aVs m c) (Cert.KernelIdeal.Value.aVn m c), fun c => Cert.KernelIdeal.Value.aVs m c,
    (θ_run _ _ _).mono (fun r h c => ?_) (Cert.KernelIdeal.Value.run m g),
    (θ_run _ _ _).mono (fun r h c => ?_) (θ_run_and (Cert.ReferenceIdeal.Value.run m' g') (Cert.ReferenceIdeal.Gen.unchanged m' g'))⟩
  · obtain ⟨h7, h8, h9, h0, h1, h2, h3, h4, h5, h6⟩ := h c
    exact ⟨h7.trans (attention m c (H c)), h8.trans (key_codes m c (H c)), h4, h9.trans (value_codes m c (H c)), h6,
      h0, h1, h2, h3, h4, h5, h6⟩
  · obtain ⟨a0, a1, a2, a3, a4, a5, a6⟩ := agree c
    obtain ⟨hy, hk, hv, h4, h6⟩ := h.1 c
    refine ⟨hy.trans ?_, hk.trans ?_, h4.trans a4, hv.trans ?_, h6.trans a6, h.2 c⟩
    · show Cert.ReferenceIdeal.Value.result (Cert.ReferenceIdeal.Value.weights (Cert.ReferenceIdeal.Value.scores
          (m' ((c.tc : Thread Cert.ReferenceIdeal.nD Cert.ReferenceIdeal.τ).loc Cert.ReferenceIdeal.main_arg0))
          (Cert.ReferenceIdeal.Value.keys (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4)))))
        (Cert.ReferenceIdeal.Value.values (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))) = _
      rw [a0, a1, a2, a3, a4, a5, a6]
    · show refCodes (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg1)) = _
      rw [a4, a1]
    · show refCodes (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg2)) = _
      rw [a6, a2]

/-- Everything claimed. -/
theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "scale_log2e" .f32 0x3E0293EE#32 ((((Real.sqrt 128) * (Real.log 2))⁻¹ : ℝ) : EReal) rfl,
    algebraic⟩

end Cert.Proof

end
